-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_pre [hPre_mla_pre : Cert.Pre_mla_pre.Facts] (m : (ℓ : Loc Cert.KernelIdeal.nD Cert.KernelIdeal.τ Cert.KernelIdeal.sig) → Buf (Elt Ideal) ℓ) : Prop :=
  ∀ c : Dev Cert.KernelIdeal.nD,
    (Cert.Pre_mla_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_pre [hPre_mla_pre : Cert.Pre_mla_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mla_pre [hKernelIdeal : Cert.KernelIdeal.Facts] [hPre_mla_pre : Cert.Pre_mla_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mla_pre [hReferenceIdeal : Cert.ReferenceIdeal.Facts] [hPre_mla_pre : Cert.Pre_mla_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def preserves_Reference_ReferenceIdeal : Prop :=
  True

def algebraic_KernelIdeal_ReferenceIdeal_pre_mla_pre [hKernelIdeal : Cert.KernelIdeal.Facts] [hReferenceIdeal : Cert.ReferenceIdeal.Facts] [hPre_mla_pre : Cert.Pre_mla_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "sqrt_half" .f32 0x3F3504F3#32 (((Real.sqrt 2)⁻¹ : ℝ) : EReal)
  ∧ IdealRules.named_const.Statement Cert.Kernel2Ideal.κ "alpha" .f32 0x3FB504F3#32 ((Real.sqrt 2 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "alpha" .f32 0x3FB504F3#32 ((Real.sqrt 2 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "alpha" .f32 0x3FB504F3#32 ((Real.sqrt 2 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_mla_pre : Cert.Pre_mla_pre.Facts),
    quiescent_Kernel (hKernel := hKernel)
    ∧ quiescent_KernelIdeal (hKernelIdeal := hKernelIdeal)
    ∧ quiescent_KernelIdeal_pre_mla_pre (hKernelIdeal := hKernelIdeal) (hPre_mla_pre := hPre_mla_pre)
    ∧ quiescent_ReferenceIdeal (hReferenceIdeal := hReferenceIdeal)
    ∧ quiescent_ReferenceIdeal_pre_mla_pre (hReferenceIdeal := hReferenceIdeal) (hPre_mla_pre := hPre_mla_pre)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Reference_ReferenceIdeal
    ∧ algebraic_KernelIdeal_ReferenceIdeal_pre_mla_pre (hKernelIdeal := hKernelIdeal) (hReferenceIdeal := hReferenceIdeal) (hPre_mla_pre := hPre_mla_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_mla_pre.lean ====
abbrev S4x8x16x128x512 : Shape := ⟨5, ![4, 8, 16, 128, 512]⟩
abbrev S4x8192x1024 : Shape := ⟨3, ![4, 8192, 1024]⟩
abbrev S4x8x16x80x512 : Shape := ⟨5, ![4, 8, 16, 80, 512]⟩
abbrev S_ : Shape := ⟨0, ![]⟩
abbrev S4x8x16x1x512 : Shape := ⟨5, ![4, 8, 16, 1, 512]⟩
abbrev S4x8x16x512 : Shape := ⟨4, ![4, 8, 16, 512]⟩

class Facts : Prop where
  bitsLt_bf16_f32 : FTy.bits .bf16 < FTy.bits .f32
  bcast_S_S4x8x16x128x512 : S_.BroadcastsInDim S4x8x16x128x512 (![] : Fin 0 → Fin S4x8x16x128x512.rank)
  reducesTo_S4x8x16x128x512_S_d0_1_2_3_4 : S4x8x16x128x512.ReducesTo [0, 1, 2, 3, 4] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_
  slices_S4x8x16x80x512_S4x8x16x1x512_0_0_0_64_0 : S4x8x16x80x512.Slices ![0, 0, 0, 64, 0] S4x8x16x1x512
  shapeCasts_S4x8x16x1x512_S4x8x16x512 : S4x8x16x1x512.ShapeCasts S4x8x16x512
  bcast_S_S4x8x16x512 : S_.BroadcastsInDim S4x8x16x512 (![] : Fin 0 → Fin S4x8x16x512.rank)
  reducesTo_S4x8x16x512_S_d0_1_2_3 : S4x8x16x512.ReducesTo [0, 1, 2, 3] S_

variable [Facts]

def fn {F : FTy → Type} [FloatOps F] (main_arg0 : FVec F S4x8x16x128x512 .bf16) (main_arg1 : FVec F S4x8192x1024 .bf16) (main_arg2 : FVec F S4x8x16x80x512 .bf16) : IVec S_ 1 :=
  let main_v0 : FVec F S4x8x16x128x512 .f32 := (extf .f32 · bitsLt_bf16_f32) main_arg0
  let main_v1 : FVec F S4x8x16x128x512 .f32 := Host.absf main_v0
  let main_cst : FVec F S_ .f32 := constant S_ .f32 0x7F800000#32
  let main_v2 : FVec F S4x8x16x128x512 .f32 := broadcastInDim S4x8x16x128x512 ![] bcast_S_S4x8x16x128x512 main_cst
  let main_v3 : IVec S4x8x16x128x512 1 := cmpf .olt main_v1 main_v2
  let main_c : IVec S_ 1 := constantI S_ 1 1#1
  let main_v4 : IVec S_ 1 := (fun x v => Host.reduce IntOp.andi x v reducesTo_S4x8x16x128x512_S_d0_1_2_3_4 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  let main_v11 : FVec F S4x8x16x1x512 .bf16 := (extractStridedSlice S4x8x16x1x512 ![0, 0, 0, 64, 0] · slices_S4x8x16x80x512_S4x8x16x1x512_0_0_0_64_0) main_arg2
  let main_v12 : FVec F S4x8x16x512 .bf16 := shapeCast S4x8x16x512 main_v11 shapeCasts_S4x8x16x1x512_S4x8x16x512
  let main_v13 : FVec F S4x8x16x512 .f32 := (extf .f32 · bitsLt_bf16_f32) main_v12
  let main_cst_2 : FVec F S_ .f32 := constant S_ .f32 0x3F800000#32
  let main_v14 : FVec F S4x8x16x512 .f32 := broadcastInDim S4x8x16x512 ![] bcast_S_S4x8x16x512 main_cst_2
  let main_v15 : IVec S4x8x16x512 1 := cmpf .oeq main_v13 main_v14
  let main_c_3 : IVec S_ 1 := constantI S_ 1 1#1
  let main_v16 : IVec S_ 1 := (fun x v => Host.reduce IntOp.andi x v reducesTo_S4x8x16x512_S_d0_1_2_3 h_S_) main_v15 main_c_3
  let main_v17 : IVec S_ 1 := andi main_v10 main_v16
  main_v17
-- ==== Kernel.lean ====
abbrev S4x8x16x128x512 : Shape := ⟨5, ![4, 8, 16, 128, 512]⟩
abbrev S4x8192x1024 : Shape := ⟨3, ![4, 8192, 1024]⟩
abbrev S4x8x16x80x512 : Shape := ⟨5, ![4, 8, 16, 80, 512]⟩
abbrev S4x8x16x64x512 : Shape := ⟨5, ![4, 8, 16, 64, 512]⟩
abbrev S1x1x16x128x512 : Shape := ⟨5, ![1, 1, 16, 128, 512]⟩
abbrev S1x8192x128 : Shape := ⟨3, ![1, 8192, 128]⟩
abbrev S1x1x16x80x512 : Shape := ⟨5, ![1, 1, 16, 80, 512]⟩
abbrev S1x1x16x64x512 : Shape := ⟨5, ![1, 1, 16, 64, 512]⟩
abbrev S2x4x512x256 : Shape := ⟨4, ![2, 4, 512, 256]⟩
abbrev S1x1x1x128x256 : Shape := ⟨5, ![1, 1, 1, 128, 256]⟩
abbrev S128x256 : Shape := ⟨2, ![128, 256]⟩
abbrev S1x256 : Shape := ⟨2, ![1, 256]⟩
abbrev S80x256 : Shape := ⟨2, ![80, 256]⟩
abbrev S1x512x128 : Shape := ⟨3, ![1, 512, 128]⟩
abbrev S512x128 : Shape := ⟨2, ![512, 128]⟩
abbrev S512x256 : Shape := ⟨2, ![512, 256]⟩
abbrev S1x1x512x256 : Shape := ⟨4, ![1, 1, 512, 256]⟩
abbrev S1x1x1x80x512 : Shape := ⟨5, ![1, 1, 1, 80, 512]⟩
abbrev S80x512 : Shape := ⟨2, ![80, 512]⟩
abbrev S256 : Shape := ⟨1, ![256]⟩
abbrev S64x256 : Shape := ⟨2, ![64, 256]⟩
abbrev S1x1x1x64x256 : Shape := ⟨5, ![1, 1, 1, 64, 256]⟩

abbrev nBuf : Space → Nat
  | .hbm => 4
  | .vmem => 9
  | .smem => 0
  | _ => 0

abbrev bufTy : (tb : Table) → Fin (tcTables nBuf tb) → BufTy
  | .hbm, ⟨0, _⟩ => ⟨S4x8x16x128x512, .bf16⟩
  | .hbm, ⟨1, _⟩ => ⟨S4x8192x1024, .bf16⟩
  | .hbm, ⟨2, _⟩ => ⟨S4x8x16x80x512, .bf16⟩
  | .hbm, ⟨3, _⟩ => ⟨S4x8x16x64x512, .bf16⟩
  | .local _ .vmem, ⟨0, _⟩ => ⟨S1x1x16x128x512, .bf16⟩
  | .local _ .vmem, ⟨1, _⟩ => ⟨S1x1x16x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x80x512, .bf16⟩
  | .local _ .vmem, ⟨5, _⟩ => ⟨S1x1x16x80x512, .bf16⟩
  | .local _ .vmem, ⟨6, _⟩ => ⟨S1x1x16x64x512, .bf16⟩
  | .local _ .vmem, ⟨7, _⟩ => ⟨S1x1x16x64x512, .bf16⟩
  | .local _ .vmem, ⟨8, _⟩ => ⟨S2x4x512x256, .f32⟩
  | _, _ => ⟨S4x8x16x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) (c0_i32_1 : BitVec 32) : Fin 5 → Nat :=
  let c0 : Index := 0#32
  let c0_8 : Index := 0#32
  let c0_i32 : BitVec 32 := 0#32
  let c1_i32 : BitVec 32 := 1#32
  let arg7 : BitVec 32 := Scf.iv c0_i32 c1_i32 k0_t1
  let c2_i32 : BitVec 32 := 2#32
  let v1 : BitVec 32 := Scalar.muli arg7 c2_i32
  let v2 : BitVec 32 := Scalar.addi v1 c0_i32_1
  let v9 : Index := Scalar.indexCast v2
  let c0_9 : Index := 0#32
  let c0_10 : Index := 0#32
  ![0, 0, v9.toNat, 0, 0]
def k0_off2 (k0_t1 : Fin k0_t1_loop.trips) (c0_i32_3 : BitVec 32) : Fin 5 → Nat :=
  let c0_11 : Index := 0#32
  let c0_12 : Index := 0#32
  let c0_i32 : BitVec 32 := 0#32
  let c1_i32 : BitVec 32 := 1#32
  let arg7 : BitVec 32 := Scf.iv c0_i32 c1_i32 k0_t1
  let c2_i32_2 : BitVec 32 := 2#32
  let v3 : BitVec 32 := Scalar.muli arg7 c2_i32_2
  let v4 : BitVec 32 := Scalar.addi v3 c0_i32_3
  let v12 : Index := Scalar.indexCast v4
  let c0_13 : Index := 0#32
  let c256 : Index := 256#32
  ![0, 0, v12.toNat, 0, 256]
def k0_mult1 : BitVec 32 :=
  let c0_i32_29 : BitVec 32 := 0#32
  c0_i32_29
@[reducible] def k0_t2_loop : Scf.Loop 32 :=
  let c0_i32_49 : BitVec 32 := 0#32
  let c7_i32 : BitVec 32 := 7#32
  let v49 : BitVec 32 := Scalar.addi c0_i32_49 c7_i32
  let c1_i32_50 : BitVec 32 := 1#32
  ⟨c0_i32_49, v49, c1_i32_50⟩
def k0_mult2 (k0_t2 : Fin k0_t2_loop.trips) : BitVec 32 :=
  let c2_i32_164 : BitVec 32 := 2#32
  let c0_i32_49 : BitVec 32 := 0#32
  let c1_i32_50 : BitVec 32 := 1#32
  let arg8 : BitVec 32 := Scf.iv c0_i32_49 c1_i32_50 k0_t2
  let v265 : BitVec 32 := Scalar.muli c2_i32_164 arg8
  let c1_i32_165 : BitVec 32 := 1#32
  let v266 : BitVec 32 := Scalar.addi v265 c1_i32_165
  let c512_i32 : BitVec 32 := 512#32
  let v267 : BitVec 32 := Scalar.muli v266 c512_i32
  v267
def k0_off3 (k0_t2 : Fin k0_t2_loop.trips) : Fin 3 → Nat :=
  let c0_166 : Index := 0#32
  let c2_i32_164 : BitVec 32 := 2#32
  let c0_i32_49 : BitVec 32 := 0#32
  let c1_i32_50 : BitVec 32 := 1#32
  let arg8 : BitVec 32 := Scf.iv c0_i32_49 c1_i32_50 k0_t2
  let v265 : BitVec 32 := Scalar.muli c2_i32_164 arg8
  let c1_i32_165 : BitVec 32 := 1#32
  let v266 : BitVec 32 := Scalar.addi v265 c1_i32_165
  let c512_i32 : BitVec 32 := 512#32
  let v267 : BitVec 32 := Scalar.muli v266 c512_i32
  let v268 : BitVec 32 := v267
  let v269 : Index := Scalar.indexCast v268
  let c0_167 : Index := 0#32
  ![0, v269.toNat, 0]
def k0_off4 (k0_t2 : Fin k0_t2_loop.trips) : Fin 5 → Nat :=
  let c0_168 : Index := 0#32
  let c0_169 : Index := 0#32
  let c2_i32_164 : BitVec 32 := 2#32
  let c0_i32_49 : BitVec 32 := 0#32
  let c1_i32_50 : BitVec 32 := 1#32
  let arg8 : BitVec 32 := Scf.iv c0_i32_49 c1_i32_50 k0_t2
  let v265 : BitVec 32 := Scalar.muli c2_i32_164 arg8
  let v272 : Index := Scalar.indexCast v265
  let c0_170 : Index := 0#32
  let c0_171 : Index := 0#32
  ![0, 0, v272.toNat, 0, 0]
def k0_mult3 (k0_t2 : Fin k0_t2_loop.trips) : BitVec 32 :=
  let c2_i32_162 : BitVec 32 := 2#32
  let c0_i32_49 : BitVec 32 := 0#32
  let c1_i32_50 : BitVec 32 := 1#32
  let arg8 : BitVec 32 := Scf.iv c0_i32_49 c1_i32_50 k0_t2
  let v263 : BitVec 32 := Scalar.muli c2_i32_162 arg8
  let c1_i32_163 : BitVec 32 := 1#32
  let v264 : BitVec 32 := Scalar.addi v263 c1_i32_163
  let c1_i32_224 : BitVec 32 := 1#32
  let v367 : BitVec 32 := Scalar.addi v264 c1_i32_224
  let c512_i32_225 : BitVec 32 := 512#32
  let v368 : BitVec 32 := Scalar.muli v367 c512_i32_225
  v368
def k0_off5 (k0_t2 : Fin k0_t2_loop.trips) : Fin 3 → Nat :=
  let c0_226 : Index := 0#32
  let c2_i32_162 : BitVec 32 := 2#32
  let c0_i32_49 : BitVec 32 := 0#32
  let c1_i32_50 : BitVec 32 := 1#32
  let arg8 : BitVec 32 := Scf.iv c0_i32_49 c1_i32_50 k0_t2
  let v263 : BitVec 32 := Scalar.muli c2_i32_162 arg8
  let c1_i32_163 : BitVec 32 := 1#32
  let v264 : BitVec 32 := Scalar.addi v263 c1_i32_163
  let c1_i32_224 : BitVec 32 := 1#32
  let v367 : BitVec 32 := Scalar.addi v264 c1_i32_224
  let c512_i32_225 : BitVec 32 := 512#32
  let v368 : BitVec 32 := Scalar.muli v367 c512_i32_225
  let v369 : BitVec 32 := v368
  let v370 : Index := Scalar.indexCast v369
  let c0_227 : Index := 0#32
  ![0, v370.toNat, 0]
def k0_off6 (k0_t2 : Fin k0_t2_loop.trips) : Fin 5 → Nat :=
  let c0_228 : Index := 0#32
  let c0_229 : Index := 0#32
  let c2_i32_162 : BitVec 32 := 2#32
  let c0_i32_49 : BitVec 32 := 0#32
  let c1_i32_50 : BitVec 32 := 1#32
  let arg8 : BitVec 32 := Scf.iv c0_i32_49 c1_i32_50 k0_t2
  let v263 : BitVec 32 := Scalar.muli c2_i32_162 arg8
  let c1_i32_163 : BitVec 32 := 1#32
  let v264 : BitVec 32 := Scalar.addi v263 c1_i32_163
  let v373 : Index := Scalar.indexCast v264
  let c0_230 : Index := 0#32
  let c0_231 : Index := 0#32
  ![0, 0, v373.toNat, 0, 0]
def k0_mult4 : BitVec 32 :=
  let c7680_i32 : BitVec 32 := 7680#32
  c7680_i32
def k0_off7 (k0_t1 : Fin k0_t1_loop.trips) (c0_i32_1 : BitVec 32) : Fin 5 → Nat :=
  let c0_146 : Index := 0#32
  let c0_147 : Index := 0#32
  let c0_i32 : BitVec 32 := 0#32
  let c1_i32 : BitVec 32 := 1#32
  let arg7 : BitVec 32 := Scf.iv c0_i32 c1_i32 k0_t1
  let c2_i32 : BitVec 32 := 2#32
  let v1 : BitVec 32 := Scalar.muli arg7 c2_i32
  let v2 : BitVec 32 := Scalar.addi v1 c0_i32_1
  let v232 : Index := Scalar.indexCast v2
  let c0_148 : Index := 0#32
  let c0_149 : Index := 0#32
  ![0, 0, v232.toNat, 0, 0]
def k0_off8 (k0_t1 : Fin k0_t1_loop.trips) (c0_i32_3 : BitVec 32) : Fin 5 → Nat :=
  let c0_150 : Index := 0#32
  let c0_151 : Index := 0#32
  let c0_i32 : BitVec 32 := 0#32
  let c1_i32 : BitVec 32 := 1#32
  let arg7 : BitVec 32 := Scf.iv c0_i32 c1_i32 k0_t1
  let c2_i32_2 : BitVec 32 := 2#32
  let v3 : BitVec 32 := Scalar.muli arg7 c2_i32_2
  let v4 : BitVec 32 := Scalar.addi v3 c0_i32_3
  let v241 : Index := Scalar.indexCast v4
  let c0_152 : Index := 0#32
  let c256_153 : Index := 256#32
  ![0, 0, v241.toNat, 0, 256]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== Reference.lean ====
abbrev S4x8x16x128x512 : Shape := ⟨5, ![4, 8, 16, 128, 512]⟩
abbrev S4x8192x1024 : Shape := ⟨3, ![4, 8192, 1024]⟩
abbrev S4x8x16x80x512 : Shape := ⟨5, ![4, 8, 16, 80, 512]⟩
abbrev S4x16x512x8x128 : Shape := ⟨5, ![4, 16, 512, 8, 128]⟩
abbrev S4x8192x8x128 : Shape := ⟨4, ![4, 8192, 8, 128]⟩
abbrev S4x8x16x64x512 : Shape := ⟨5, ![4, 8, 16, 64, 512]⟩
abbrev S4x16x512x8x64 : Shape := ⟨5, ![4, 16, 512, 8, 64]⟩
abbrev S4x8192x8x64 : Shape := ⟨4, ![4, 8192, 8, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S4x8x16x128x512, .bf16⟩
  | .hbm, ⟨1, _⟩ => ⟨S4x8192x1024, .bf16⟩
  | .hbm, ⟨2, _⟩ => ⟨S4x8x16x80x512, .bf16⟩
  | .hbm, ⟨3, _⟩ => ⟨S4x8x16x128x512, .f32⟩
  | .hbm, ⟨4, _⟩ => ⟨S4x16x512x8x128, .f32⟩
  | .hbm, ⟨5, _⟩ => ⟨S4x8192x8x128, .f32⟩
  | .hbm, ⟨6, _⟩ => ⟨S4x8192x1024, .f32⟩
  | .hbm, ⟨7, _⟩ => ⟨S4x8192x8x128, .f32⟩
  | .hbm, ⟨8, _⟩ => ⟨S4x8x16x64x512, .bf16⟩
  | .hbm, ⟨9, _⟩ => ⟨S4x8x16x64x512, .f32⟩
  | .hbm, ⟨10, _⟩ => ⟨S4x16x512x8x64, .f32⟩
  | .hbm, ⟨11, _⟩ => ⟨S4x8192x8x64, .f32⟩
  | .hbm, ⟨12, _⟩ => ⟨S4x8x8192x8192, .f32⟩
  | .hbm, ⟨13, _⟩ => ⟨S_, .f32⟩
  | .hbm, ⟨14, _⟩ => ⟨S_, .f32⟩
  | .hbm, ⟨15, _⟩ => ⟨S4x8x8192x8192, .f32⟩
  | .hbm, ⟨16, _⟩ => ⟨S4x8x8192x8192, .f32⟩
  | .hbm, ⟨17, _⟩ => ⟨S_, .f32⟩
  | .hbm, ⟨18, _⟩ => ⟨S4x8x8192, .f32⟩
  | .hbm, ⟨19, _⟩ => ⟨S_, .f32⟩
  | .hbm, ⟨20, _⟩ => ⟨S4x8x8192, .f32⟩
  | .hbm, ⟨21, _⟩ => ⟨S4x8x8192, .f32⟩
  | .hbm, ⟨22, _⟩ => ⟨S4x8x8192x1, .f32⟩
  | .hbm, ⟨23, _⟩ => ⟨S4x8x8192x8192, .f32⟩
  | .hbm, ⟨24, _⟩ => ⟨S4x8x8192x8192, .f32⟩
  | .hbm, ⟨25, _⟩ => ⟨S4x8x8192x8192, .f32⟩
  | .hbm, ⟨26, _⟩ => ⟨S_, .f32⟩
  | .hbm, ⟨27, _⟩ => ⟨S4x8x8192, .f32⟩
  | .hbm, ⟨28, _⟩ => ⟨S4x8x8192x1, .f32⟩
  | .hbm, ⟨29, _⟩ => ⟨S4x8x8192x8192, .f32⟩
  | .hbm, ⟨30, _⟩ => ⟨S4x8x8192x8192, .f32⟩
  | .hbm, ⟨31, _⟩ => ⟨S4x8x64x8192, .f32⟩
  | .hbm, ⟨32, _⟩ => ⟨S4x8192x8x64, .f32⟩
  | .hbm, ⟨33, _⟩ => ⟨S4x16x512x8x64, .f32⟩
  | .hbm, ⟨34, _⟩ => ⟨S4x8x16x64x512, .f32⟩
  | .hbm, ⟨35, _⟩ => ⟨S4x8x16x64x512, .bf16⟩
  | _, _ => ⟨S4x8x16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S1x1024x1024 : Shape := ⟨3, ![1, 1024, 1024]⟩
abbrev S1x16x1024 : Shape := ⟨3, ![1, 16, 1024]⟩
abbrev S1056x1024 : Shape := ⟨2, ![1056, 1024]⟩
abbrev S1024x2816 : Shape := ⟨2, ![1024, 2816]⟩
abbrev S16x1024 : Shape := ⟨2, ![16, 1024]⟩
abbrev S1024x1024 : Shape := ⟨2, ![1024, 1024]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩
abbrev S1024x1 : Shape := ⟨2, ![1024, 1]⟩

abbrev nBuf : Space → Nat
  | .hbm => 13
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1056x1024, .bf16⟩
  | .local _ .vmem, ⟨15, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "alpha" => some ((Real.sqrt 2 : ℝ) : EReal)
  | "sqrt_half" => some (((Real.sqrt 2)⁻¹ : ℝ) : EReal)
  | _ => none
-- ==== Reference2Ideal.lean ====
abbrev S4x8192x1024 : Shape := ⟨3, ![4, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S4x8192x5632 : Shape := ⟨3, ![4, 8192, 5632]⟩
abbrev S_ : Shape := ⟨0, ![]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S4x8192x5632, .f32⟩
  | .hbm, ⟨8, _⟩ => ⟨S_, .i32⟩
  | .hbm, ⟨9, _⟩ => ⟨S_, .f32⟩
  | .hbm, ⟨10, _⟩ => ⟨S4x8194x5632, .f32⟩
  | .hbm, ⟨11, _⟩ => ⟨S4x8192x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x8192x5632, .f32⟩
  | .hbm, ⟨16, _⟩ => ⟨S4x8192x5632, .f32⟩
  | .hbm, ⟨17, _⟩ => ⟨S_, .f32⟩
  | .hbm, ⟨18, _⟩ => ⟨S4x8192x5632, .f32⟩
  | .hbm, ⟨19, _⟩ => ⟨S4x8192x5632, .f32⟩
  | .hbm, ⟨20, _⟩ => ⟨S4x8192x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x8192x5632, .f32⟩
  | .hbm, ⟨25, _⟩ => ⟨S4x8192x5632, .f32⟩
  | .hbm, ⟨26, _⟩ => ⟨S4x8192x5632, .f32⟩
  | .hbm, ⟨27, _⟩ => ⟨S4x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x8192x5632, .f32⟩
  | .hbm, ⟨32, _⟩ => ⟨S4x8192x5632, .f32⟩
  | .hbm, ⟨33, _⟩ => ⟨S4x8192x5632, .f32⟩
  | .hbm, ⟨34, _⟩ => ⟨S1x1x5632, .f32⟩
  | .hbm, ⟨35, _⟩ => ⟨S4x8192x5632, .f32⟩
  | .hbm, ⟨36, _⟩ => ⟨S4x8192x5632, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S_, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x8192x1024, .f32⟩
  | .hbm, ⟨53, _⟩ => ⟨S4x8192x1024, .f32⟩
  | .hbm, ⟨54, _⟩ => ⟨S4x8192x2816, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S4x8192x1, .f32⟩
  | .hbm, ⟨76, _⟩ => ⟨S4x8192x1024, .f32⟩
  | .hbm, ⟨77, _⟩ => ⟨S4x8192x1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8x16x64x512 : Shape := ⟨5, ![4, 8, 16, 64, 512]⟩
abbrev S1024x1024 : Shape := ⟨2, ![1024, 1024]⟩
abbrev S1024 : Shape := ⟨1, ![1024]⟩
abbrev S32768x1024 : Shape := ⟨2, ![32768, 1024]⟩
abbrev S512x1024 : Shape := ⟨2, ![512, 1024]⟩
abbrev S1x1024 : Shape := ⟨2, ![1, 1024]⟩
abbrev S1x8x1x64x512 : Shape := ⟨5, ![1, 8, 1, 64, 512]⟩
abbrev S8x64x512 : Shape := ⟨3, ![8, 64, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8x16x64x512, .bf16⟩
  | .hbm, ⟨2, _⟩ => ⟨S4x8x16x64x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x8x1x64x512, .bf16⟩
  | .local _ .vmem, ⟨3, _⟩ => ⟨S1x8x1x64x512, .bf16⟩
  | .local _ .vmem, ⟨4, _⟩ => ⟨S1x8x1x64x512, .bf16⟩
  | .local _ .vmem, ⟨5, _⟩ => ⟨S1x8x1x64x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_2 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "alpha" => some ((Real.sqrt 2 : ℝ) : EReal)
  | _ => none
-- ==== Reference3Ideal.lean ====
abbrev S4x8192x1024 : Shape := ⟨3, ![4, 8192, 1024]⟩
abbrev S4x8x16x64x512 : Shape := ⟨5, ![4, 8, 16, 64, 512]⟩
abbrev S1024x1024 : Shape := ⟨2, ![1024, 1024]⟩
abbrev S1024 : Shape := ⟨1, ![1024]⟩
abbrev S4x16x512x8x64 : Shape := ⟨5, ![4, 16, 512, 8, 64]⟩
abbrev S4x8192x512 : Shape := ⟨3, ![4, 8192, 512]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8x16x64x512, .bf16⟩
  | .hbm, ⟨2, _⟩ => ⟨S4x8x16x64x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8x16x64x512, .f32⟩
  | .hbm, ⟨7, _⟩ => ⟨S4x16x512x8x64, .f32⟩
  | .hbm, ⟨8, _⟩ => ⟨S4x8192x512, .f32⟩
  | .hbm, ⟨9, _⟩ => ⟨S4x8x16x64x512, .f32⟩
  | .hbm, ⟨10, _⟩ => ⟨S4x16x512x8x64, .f32⟩
  | .hbm, ⟨11, _⟩ => ⟨S4x8192x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x16x16x64x512 : Shape := ⟨5, ![4, 16, 16, 64, 512]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1x16x1x64x512 : Shape := ⟨5, ![1, 16, 1, 64, 512]⟩
abbrev S16x64x512 : Shape := ⟨3, ![16, 64, 512]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x16x16x64x512, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x16x1x64x512, .bf16⟩
  | .local _ .vmem, ⟨3, _⟩ => ⟨S1x16x1x64x512, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "alpha" => some ((Real.sqrt 2 : ℝ) : EReal)
  | _ => none
-- ==== Reference4Ideal.lean ====
abbrev S4x8192x1024 : Shape := ⟨3, ![4, 8192, 1024]⟩
abbrev S4x16x16x64x512 : Shape := ⟨5, ![4, 16, 16, 64, 512]⟩
abbrev S1024x1024 : Shape := ⟨2, ![1024, 1024]⟩
abbrev S1024 : Shape := ⟨1, ![1024]⟩
abbrev S4x16x512x16x64 : Shape := ⟨5, ![4, 16, 512, 16, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x16x16x64x512, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x16x16x64x512, .f32⟩
  | .hbm, ⟨6, _⟩ => ⟨S4x16x512x16x64, .f32⟩
  | .hbm, ⟨7, _⟩ => ⟨S4x8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1024, .f32⟩
  | .hbm, ⟨35, _⟩ => ⟨S4x8192x1024, .f32⟩
  | .hbm, ⟨36, _⟩ => ⟨S1x1x1024, .f32⟩
  | .hbm, ⟨37, _⟩ => ⟨S4x8192x1024, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | .hbm, ⟨42, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.FFN.Block.lean ====
/-
  What one grid point of the channel-block kernel stores, as a term of its input blocks: the staged rows with their two
  halos, the convolved product of 256 columns, the gated activation of 256 columns, the output block.
-/
module

public import proofs.«01_k».proof.Proof.Gen.Kernel2Ideal.Value
public import Idealize.ShloMosaic.Lib.Pipeline.ValueKit

@[expose] public section

set_option maxRecDepth 16384

noncomputable section

namespace Cert.Proof.FFN

open Cert.Kernel2Ideal Cert.Kernel2Ideal.Gen
open Idealize.ShloMosaic Idealize.ShloMosaic.TcCoe Idealize.ShloMosaic.Tactic

variable {F : FTy → Type} [FloatOps F] [Named F]

/-- The pieces of the staged rows, last first: the halo after, the rows, the halo before. -/
def rowPieces (i : grid0.Coords) (x0 : Vec F S1x1024x1024 .f32) (x1 x2 : Vec F S1x16x1024 .f32) :
    List (View.Piece (Elt F) S1056x1024 .bf16) :=
  [⟨Rect.unit ![1040, 0] S16x1024.size inb_S1056x1024_S16x1024_1040_0, k0_pay4 i x2⟩,
   ⟨Rect.unit ![16, 0] S1024x1024.size inb_S1056x1024_S1024x1024_16_0, k0_pay3 x0⟩,
   ⟨Rect.unit ![0, 0] S16x1024.size inb_S1056x1024_S16x1024_0_0, k0_pay2 i x1⟩]

/-- The staged rows of a grid point: 16 before, its 1024, 16 after. -/
def rows (i : grid0.Coords) (x0 : Vec F S1x1024x1024 .f32) (x1 x2 : Vec F S1x16x1024 .f32) : Vec F S1056x1024 .bf16 :=
  View.canon (rowPieces i x0 x1 x2)

/-- 256 columns of the up projection of the staged rows, convolved over three rows, with their bias. -/
def conv (x : Vec F S1056x1024 .bf16) (w : Vec F S1024x256 .bf16) (cw : Vec F S3x256 .f32) (cb : Vec F S1x256 .f32) :
    FVec F S1024x256 .f32 := k0_pay7 x w cw cb

/-- The gated activation of 256 columns, from the gate and the value. -/
def gated (g v : FVec F S1024x256 .f32) : FVec F S1024x256 .bf16 :=
  k0_pay10 v (mulf (broadcast S1024x256 (Scalar.ofBits .f32 0x3F000000#32)) g)
    (erf (mulf g (broadcast S1024x256 (Named.named κ "sqrt_half" 0x3F3504F3#32)))) (Scalar.ofBits .f32 0x3F800000#32)

/-- Column `o` and the 255 after it fit the wide arrays. -/
theorem fits (R : ℕ) {o : ℕ} (h : o + 256 ≤ 5632) : ∀ a, (![0, o] : Fin 2 → ℕ) a + (⟨2, ![R, 256]⟩ : Shape).size a ≤ (⟨2, ![R, 5632]⟩ : Shape).size a := fun a =>
  match a with
  | ⟨0, _⟩ => by show 0 + R ≤ R; omega
  | ⟨1, _⟩ => h

/-- The convolved product at columns `o` to `o + 255`, from the whole weights. -/
def convAt (x : Vec F S1056x1024 .bf16) (w : Vec F S1024x5632 .bf16) (cw : Vec F S3x5632 .f32) (cb : Vec F S1x5632 .f32)
    (o : ℕ) (h : o + 256 ≤ 5632) : FVec F S1024x256 .f32 :=
  conv x (View.ld w (Rect.unit (s := S1024x5632) ![0, o] S1024x256.size (fits 1024 h))) (View.ld cw (Rect.unit (s := S3x5632) ![0, o] S3x256.size (fits 3 h)))
    (View.ld cb (Rect.unit (s := S1x5632) ![0, o] S1x256.size (fits 1 h)))

/-- The activation's columns `o` to `o + 255`. -/
def actAt (x : Vec F S1056x1024 .bf16) (w : Vec F S1024x5632 .bf16) (cw : Vec F S3x5632 .f32) (cb : Vec F S1x5632 .f32)
    (o : ℕ) (h : o + 256 ≤ 2816) : FVec F S1024x256 .bf16 :=
  gated (convAt x w cw cb o (by omega)) (convAt x w cw cb (2816 + o) (by omega))

/-- The pieces of the activation, last first: eleven of 256 columns. -/
def actPieces (x : Vec F S1056x1024 .bf16) (w : Vec F S1024x5632 .bf16) (cw : Vec F S3x5632 .f32) (cb : Vec F S1x5632 .f32) :
    List (View.Piece (Elt F) S1024x2816 .bf16) :=
  [⟨Rect.unit ![0, 2560] S1024x256.size inb_S1024x2816_S1024x256_0_2560, actAt x w cw cb 2560 (by decide)⟩,
   ⟨Rect.unit ![0, 2304] S1024x256.size inb_S1024x2816_S1024x256_0_2304, actAt x w cw cb 2304 (by decide)⟩,
   ⟨Rect.unit ![0, 2048] S1024x256.size inb_S1024x2816_S1024x256_0_2048, actAt x w cw cb 2048 (by decide)⟩,
   ⟨Rect.unit ![0, 1792] S1024x256.size inb_S1024x2816_S1024x256_0_1792, actAt x w cw cb 1792 (by decide)⟩,
   ⟨Rect.unit ![0, 1536] S1024x256.size inb_S1024x2816_S1024x256_0_1536, actAt x w cw cb 1536 (by decide)⟩,
   ⟨Rect.unit ![0, 1280] S1024x256.size inb_S1024x2816_S1024x256_0_1280, actAt x w cw cb 1280 (by decide)⟩,
   ⟨Rect.unit ![0, 1024] S1024x256.size inb_S1024x2816_S1024x256_0_1024, actAt x w cw cb 1024 (by decide)⟩,
   ⟨Rect.unit ![0, 768] S1024x256.size inb_S1024x2816_S1024x256_0_768, actAt x w cw cb 768 (by decide)⟩,
   ⟨Rect.unit ![0, 512] S1024x256.size inb_S1024x2816_S1024x256_0_512, actAt x w cw cb 512 (by decide)⟩,
   ⟨Rect.unit ![0, 256] S1024x256.size inb_S1024x2816_S1024x256_0_256, actAt x w cw cb 256 (by decide)⟩,
   ⟨Rect.unit ![0, 0] S1024x256.size inb_S1024x2816_S1024x256_0_0, actAt x w cw cb 0 (by decide)⟩]

/-- The activation of a grid point. -/
def act (x : Vec F S1056x1024 .bf16) (w : Vec F S1024x5632 .bf16) (cw : Vec F S3x5632 .f32) (cb : Vec F S1x5632 .f32) :
    Vec F S1024x2816 .bf16 := View.canon (actPieces x w cw cb)

/-- The output block: the down projection with the scaled rows added, normalized. -/
def down (a : Vec F S1024x2816 .bf16) (wd : Vec F S2816x1024 .bf16) (x0 : Vec F S1x1024x1024 .f32) (g b : Vec F S1x1024 .f32) :
    FVec F S1x1024x1024 .f32 :=
  k0_pay1 (k0_pay51 g) (k0_pay52 b) (k0_pay53 a wd x0) (k0_pay54 a wd x0) k0_pay55

/-- A load of a whole buffer of what stores left reads their contents. -/
theorem readCov_whole {κ : Kind} {sp : Space} {s : Shape} {e : EltTy} (v : View sig κ sp s e) (L : List (View.Piece (Elt F) s e)) {off : Fin s.rank → ℕ}
    (h : off = fun _ => 0) (inb : ∀ a, off a + s.size a ≤ s.size a) :
    v.readCov L (Rect.unit off s.size inb).toLoadRect = View.canon L := by
  rw [View.readCov_eq_canon']
  exact View.ld_unit_zero h inb (View.canon L)

/-- What a grid point leaves in the output's buffer is the output block of its input blocks. -/
theorem out_eq (c : Dev nD) (i : grid0.Coords) (arg2 : Memref sig .tc .vmem S1x1024x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1056x1024 .bf16) (harg12 : arg12.IsWhole) (arg13 : Memref sig .tc .vmem S1024x2816 .bf16) (harg13 : arg13.IsWhole)
    (x0 : Vec F S1x1024x1024 .f32) (x1 : Vec F S1x16x1024 .f32) (x2 : Vec F S1x16x1024 .f32) (x3 : Vec F S1024x5632 .bf16) (x4 : Vec F S3x5632 .f32) (x5 : Vec F S1x5632 .f32) (x6 : Vec F S2816x1024 .bf16) (x7 : Vec F S1x1024 .f32) (x8 : Vec F S1x1024 .f32) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = down (act (rows i x0 x1 x2) x3 x4 x5) x6 x0 x7 x8 := by
  unfold out0_A_9
  rw [View.read_writes_junk_eq_canon]
  unfold kernelRun0_A; dsimp only
  sl_unfold_words
  have e2 : (![0, 0] : Fin 2 → ℕ) = fun _ => 0 := by decide
  have e3 : (![0, 0, 0] : Fin 3 → ℕ) = fun _ => 0 := by decide
  simp only [View.readAt_eq_ld, harg2.read_unread, harg3.read_unread, harg4.read_unread, harg5.read_unread, harg6.read_unread, harg7.read_unread, harg8.read_unread, harg9.read_unread, harg10.read_unread]
  refine (View.canon_unit_zero e3 _ _).trans ?_
  repeat rw [readCov_whole arg12.view _ e2]
  repeat rw [readCov_whole arg13.view _ e2]
  simp only [View.ld_unit_zero (S := S1x1024x1024) e3, View.ld_unit_zero (S := S1x16x1024) e3, View.ld_unit_zero (S := S2816x1024) e2, View.ld_unit_zero (S := S1x1024) e2]
  obtain ⟨X, hX⟩ : ∃ X, rows i x0 x1 x2 = X := ⟨_, rfl⟩
  rw [hX]
  unfold rows rowPieces k0_pay2 k0_pay3 k0_pay4 at hX
  dsimp only at hX
  simp only [hX]
  rfl

end Cert.Proof.FFN

end
-- ==== Proof.FFN.Read.lean ====
/-
  The channel-block kernel's payloads, each read at an index over the reals.
-/
module

public import proofs.«01_k».proof.Proof.FFN.Block

@[expose] public section

set_option maxRecDepth 16384

noncomputable section

namespace Cert.Proof.FFN

open Cert.Kernel2Ideal Cert.Kernel2Ideal.Gen
open Idealize.ShloMosaic Idealize.ShloMosaic.TcCoe Idealize.ShloMosaic.Tactic

/-- A convolved element: three rows' products with their weights, plus the bias. -/
theorem conv_at (x : FVec Ideal S1056x1024 .bf16) (w : FVec Ideal S1024x256 .bf16) (cw : FVec Ideal S3x256 .f32) (cb : FVec Ideal S1x256 .f32)
    (r : Fin 1024) (f : Fin 256) :
    conv (F := Ideal) x w cw cb (ix2 r f)
      = (∑ d : Fin 1024, x (ix2 ⟨15 + r.val, by omega⟩ d) * w (ix2 d f)) * cw (ix2 0 f)
        + (∑ d : Fin 1024, x (ix2 ⟨16 + r.val, by omega⟩ d) * w (ix2 d f)) * cw (ix2 1 f)
        + (∑ d : Fin 1024, x (ix2 ⟨17 + r.val, by omega⟩ d) * w (ix2 d f)) * cw (ix2 2 f) + cb (ix2 0 f) := by
  pointwise [conv, k0_pay7]

/-- A gated element. -/
theorem gated_at (g v : FVec Ideal S1024x256 .f32) (r : Fin 1024) (f : Fin 256) :
    gated (F := Ideal) g v (ix2 r f) = Ideal.ofBits FTy.f32 0x3F000000#32 * g (ix2 r f)
      * (1 + Ideal.erf (g (ix2 r f) * Named.named (F := Ideal) (φ := .f32) κ "sqrt_half" 0x3F3504F3#32)) * v (ix2 r f) := by
  pointwise [gated, k0_pay10]
  rfl

/-- A centered feature of the output block, from the activation. -/
theorem cen_at (a : FVec Ideal S1024x2816 .bf16) (wd : FVec Ideal S2816x1024 .bf16) (x0 : FVec Ideal S1x1024x1024 .f32) (r d : Fin 1024) :
    k0_pay53 (F := Ideal) a wd x0 (ix2 r d)
      = (Named.named (F := Ideal) (φ := .f32) κ "alpha" 0x3FB504F3#32 * x0 (ix3 0 r d) + ∑ f : Fin 2816, a (ix2 r f) * wd (ix2 f d))
        - Ideal.div (∑ k : Fin 1024, (Named.named (F := Ideal) (φ := .f32) κ "alpha" 0x3FB504F3#32 * x0 (ix3 0 r k) + ∑ f : Fin 2816, a (ix2 r f) * wd (ix2 f k)))
            (Ideal.ofBits FTy.f32 0x44800000#32) := by
  pointwise [k0_pay53]

/-- The mean square of a row's centered features. -/
theorem var_at (a : FVec Ideal S1024x2816 .bf16) (wd : FVec Ideal S2816x1024 .bf16) (x0 : FVec Ideal S1x1024x1024 .f32) (r : Fin 1024) :
    k0_pay54 (F := Ideal) a wd x0 (ix2 r 0)
      = Ideal.div (∑ k : Fin 1024, k0_pay53 (F := Ideal) a wd x0 (ix2 r k) * k0_pay53 (F := Ideal) a wd x0 (ix2 r k)) (Ideal.ofBits FTy.f32 0x44800000#32) := by
  pointwise [k0_pay54]

/-- An element of the output block, from its centered features. -/
theorem down_at (a : FVec Ideal S1024x2816 .bf16) (wd : FVec Ideal S2816x1024 .bf16) (x0 : FVec Ideal S1x1024x1024 .f32) (g b : FVec Ideal S1x1024 .f32)
    (r d : Fin 1024) :
    down (F := Ideal) a wd x0 g b (ix3 0 r d)
      = k0_pay53 (F := Ideal) a wd x0 (ix2 r d)
        * Ideal.rsqrt (k0_pay54 (F := Ideal) a wd x0 (ix2 r 0) + Ideal.ofBits FTy.f32 0x3727C5AC#32) * g (ix2 0 d) + b (ix2 0 d) := by
  pointwise [down, k0_pay1, k0_pay51, k0_pay52, k0_pay55]

/-- A row of the halo before: zero at the first tile. -/
theorem before_at (i : grid0.Coords) (x : FVec Ideal S1x16x1024 .f32) (r : Fin 16) (d : Fin 1024) :
    k0_pay2 (F := Ideal) i x (ix2 r d) = if 0 < (i 1).val then x (ix3 0 r d) else (0 : EReal) := by
  pointwise [k0_pay2]
  rw [show Scalar.cmpi .sgt (BitVec.ofNat 32 (i 1).val) 0#32 = if 0 < (i 1).val then 1#1 else 0#1 from
    (by decide : ∀ k : Fin 8, Scalar.cmpi .sgt (BitVec.ofNat 32 k.val) 0#32 = if 0 < k.val then 1#1 else 0#1) (i 1)]
  split <;> rfl

/-- A row of the tile. -/
theorem tile_at (x : FVec Ideal S1x1024x1024 .f32) (r d : Fin 1024) : k0_pay3 (F := Ideal) x (ix2 r d) = x (ix3 0 r d) := by
  pointwise [k0_pay3]

/-- A row of the halo after: zero at the last tile. -/
theorem after_at (i : grid0.Coords) (x : FVec Ideal S1x16x1024 .f32) (r : Fin 16) (d : Fin 1024) :
    k0_pay4 (F := Ideal) i x (ix2 r d) = if (i 1).val < 7 then x (ix3 0 r d) else (0 : EReal) := by
  pointwise [k0_pay4]
  rw [show Scalar.cmpi .slt (BitVec.ofNat 32 (i 1).val) 7#32 = if (i 1).val < 7 then 1#1 else 0#1 from
    (by decide : ∀ k : Fin 8, Scalar.cmpi .slt (BitVec.ofNat 32 k.val) 7#32 = if k.val < 7 then 1#1 else 0#1) (i 1)]
  split <;> rfl

end Cert.Proof.FFN

end
-- ==== Proof.FFN.Tile.lean ====
/-
  The staged rows and the activation of a grid point, read at an index over the reals.
-/
module

public import proofs.«01_k».proof.Proof.FFN.Read

@[expose] public section

set_option maxRecDepth 16384

noncomputable section

namespace Cert.Proof.FFN

open Cert.Kernel2Ideal Cert.Kernel2Ideal.Gen
open Idealize.ShloMosaic Idealize.ShloMosaic.TcCoe Idealize.ShloMosaic.Tactic

/-- A staged row: from the halo before, the tile, or the halo after. -/
theorem rows_at (i : grid0.Coords) (x0 : FVec Ideal S1x1024x1024 .f32) (x1 x2 : FVec Ideal S1x16x1024 .f32) (p : Fin 1056) (d : Fin 1024) :
    rows (F := Ideal) i x0 x1 x2 (ix2 p d)
      = if h : p.val < 16 then (if 0 < (i 1).val then x1 (ix3 0 ⟨p.val, h⟩ d) else (0 : EReal))
        else if h' : p.val < 1040 then x0 (ix3 0 ⟨p.val - 16, by omega⟩ d)
        else (if (i 1).val < 7 then x2 (ix3 0 ⟨p.val - 1040, by omega⟩ d) else (0 : EReal)) := by
  have cover : ∃ q ∈ rowPieces (F := Ideal) i x0 x1 x2, (ix2 p d : S1056x1024.Idx) ∈ q.1.set := by
    have hd := d.isLt
    by_cases h : p.val < 16
    · refine ⟨_, .tail _ (.tail _ (.head _)), (Rect.mem_set_unit (inb := inb_S1056x1024_S16x1024_0_0)).mpr fun a => ?_⟩
      match a with
      | ⟨0, _⟩ => exact ⟨Nat.zero_le _, by show p.val < 0 + 16; omega⟩
      | ⟨1, _⟩ => exact ⟨Nat.zero_le _, by show d.val < 0 + 1024; omega⟩
    by_cases h' : p.val < 1040
    · refine ⟨_, .tail _ (.head _), (Rect.mem_set_unit (inb := inb_S1056x1024_S1024x1024_16_0)).mpr fun a => ?_⟩
      match a with
      | ⟨0, _⟩ => exact ⟨by show 16 ≤ p.val; omega, by show p.val < 16 + 1024; omega⟩
      | ⟨1, _⟩ => exact ⟨Nat.zero_le _, by show d.val < 0 + 1024; omega⟩
    · refine ⟨_, .head _, (Rect.mem_set_unit (inb := inb_S1056x1024_S16x1024_1040_0)).mpr fun a => ?_⟩
      match a with
      | ⟨0, _⟩ => exact ⟨by show 1040 ≤ p.val; omega, by show p.val < 1040 + 16; omega⟩
      | ⟨1, _⟩ => exact ⟨Nat.zero_le _, by show d.val < 0 + 1024; omega⟩
  unfold rows
  unfold rowPieces at cover ⊢
  canon_tiles x h using cover
  · have e0 : p.val = 1040 + (x 0).val := h0
    rw [dif_neg (by omega), dif_neg (by omega)]
    have ex : x = ix2 ⟨p.val - 1040, by omega⟩ d :=
      (eq_ix2 x).trans (congrArg₂ (fun q q' => ix2 q q') (Fin.ext (by show (x 0).val = p.val - 1040; omega)) (Fin.ext h1.symm))
    refine (congrArg (k0_pay4 (F := Ideal) i x2) ex).trans ?_
    exact after_at i x2 _ d
  · have e0 : p.val = 16 + (x 0).val := h0
    rw [dif_neg (by omega), dif_pos (by omega)]
    have ex : x = ix2 ⟨p.val - 16, by omega⟩ d :=
      (eq_ix2 x).trans (congrArg₂ (fun q q' => ix2 q q') (Fin.ext (by show (x 0).val = p.val - 16; omega)) (Fin.ext h1.symm))
    refine (congrArg (k0_pay3 (F := Ideal) x0) ex).trans ?_
    exact tile_at x0 _ d
  · have e0 : p.val = (x 0).val := h0
    rw [dif_pos (by omega)]
    have ex : x = ix2 ⟨p.val, by omega⟩ d :=
      (eq_ix2 x).trans (congrArg₂ (fun q q' => ix2 q q') (Fin.ext h0.symm) (Fin.ext h1.symm))
    refine (congrArg (k0_pay2 (F := Ideal) i x1) ex).trans ?_
    exact before_at i x1 _ d

/-- The sum over the features of a staged row with one column of the weights. -/
def dotRow (x : FVec Ideal S1056x1024 .bf16) (w : FVec Ideal S1024x5632 .bf16) (p : Fin 1056) (f : Fin 5632) : EReal :=
  ∑ d : Fin 1024, x (ix2 p d) * w (ix2 d f)

/-- One convolved element of a grid point. -/
def cell (x : FVec Ideal S1056x1024 .bf16) (w : FVec Ideal S1024x5632 .bf16) (cw : FVec Ideal S3x5632 .f32) (cb : FVec Ideal S1x5632 .f32)
    (r : Fin 1024) (f : Fin 5632) : EReal :=
  dotRow x w ⟨15 + r.val, by omega⟩ f * cw (ix2 0 f) + dotRow x w ⟨16 + r.val, by omega⟩ f * cw (ix2 1 f)
    + dotRow x w ⟨17 + r.val, by omega⟩ f * cw (ix2 2 f) + cb (ix2 0 f)

/-- The gated value of a gate and a value. -/
def gate (g v : EReal) : EReal :=
  Ideal.ofBits FTy.f32 0x3F000000#32 * g * (1 + Ideal.erf (g * Named.named (F := Ideal) (φ := .f32) κ "sqrt_half" 0x3F3504F3#32)) * v

/-- A convolved element at a column offset is the one at the whole arrays' column. -/
theorem convAt_at (x : FVec Ideal S1056x1024 .bf16) (w : FVec Ideal S1024x5632 .bf16) (cw : FVec Ideal S3x5632 .f32) (cb : FVec Ideal S1x5632 .f32)
    (o : ℕ) (h : o + 256 ≤ 5632) (r : Fin 1024) (f : Fin 256) :
    convAt (F := Ideal) x w cw cb o h (ix2 r f) = cell x w cw cb r ⟨o + f.val, by omega⟩ := by
  unfold convAt
  rw [conv_at]
  pointwise [cell, dotRow]

/-- An element of 256 activation columns. -/
theorem actAt_at (x : FVec Ideal S1056x1024 .bf16) (w : FVec Ideal S1024x5632 .bf16) (cw : FVec Ideal S3x5632 .f32) (cb : FVec Ideal S1x5632 .f32)
    (o : ℕ) (h : o + 256 ≤ 2816) (r : Fin 1024) (k : Fin 256) (f : Fin 2816) (hf : f.val = o + k.val) :
    actAt (F := Ideal) x w cw cb o h (ix2 r k)
      = gate (cell x w cw cb r ⟨f.val, by omega⟩) (cell x w cw cb r ⟨2816 + f.val, by omega⟩) := by
  unfold actAt
  rw [gated_at, convAt_at, convAt_at]
  have e1 : (⟨o + k.val, by omega⟩ : Fin 5632) = ⟨f.val, by omega⟩ := Fin.ext hf.symm
  have e2 : (⟨2816 + o + k.val, by omega⟩ : Fin 5632) = ⟨2816 + f.val, by omega⟩ := Fin.ext (by show 2816 + o + k.val = 2816 + f.val; omega)
  rw [e1, e2]
  rfl

/-- An element of 256 activation columns, by its position in the whole activation. -/
theorem actAt_piece (x : FVec Ideal S1056x1024 .bf16) (w : FVec Ideal S1024x5632 .bf16) (cw : FVec Ideal S3x5632 .f32) (cb : FVec Ideal S1x5632 .f32)
    (o : ℕ) (h : o + 256 ≤ 2816) (r : Fin 1024) (f : Fin 2816) (y : S1024x256.Idx) (h0 : r.val = (y 0).val) (h1 : f.val = o + (y 1).val) :
    actAt (F := Ideal) x w cw cb o h y = gate (cell x w cw cb r ⟨f.val, by omega⟩) (cell x w cw cb r ⟨2816 + f.val, by omega⟩) := by
  rw [show y = ix2 r (y 1) from (eq_ix2 y).trans (congrArg (fun q => ix2 q (y 1)) (Fin.ext h0.symm))]
  exact actAt_at x w cw cb o h r (y 1) f h1

/-- An element of the activation. -/
theorem act_at (x : FVec Ideal S1056x1024 .bf16) (w : FVec Ideal S1024x5632 .bf16) (cw : FVec Ideal S3x5632 .f32) (cb : FVec Ideal S1x5632 .f32)
    (r : Fin 1024) (f : Fin 2816) :
    act (F := Ideal) x w cw cb (ix2 r f) = gate (cell x w cw cb r ⟨f.val, by omega⟩) (cell x w cw cb r ⟨2816 + f.val, by omega⟩) := by
  unfold act actPieces
  canon_tiles y h
  all_goals exact actAt_piece x w cw cb _ _ r f y h0 (by first | exact h1 | exact h1.trans (Nat.zero_add _).symm)

end Cert.Proof.FFN

end
-- ==== Proof.FFN.Ref.lean ====
/- The reference's steps, each read at an index. -/
module

public import proofs.«01_k».proof.Proof.Gen.Reference2Ideal.Run
public import Idealize.ShloMosaic.Lib.Pipeline.ValueKit

@[expose] public section

set_option maxRecDepth 16384
noncomputable section

namespace Cert.Proof.FFN.Ref
open Idealize.ShloMosaic Idealize.ShloMosaic.TcCoe Idealize.SL.Sem
open Cert.Reference2Ideal Cert.Reference2Ideal.Gen

/-- The up projection of every token. -/
def rUp (x : FVec Ideal S4x8192x1024 .f32) (w : FVec Ideal S1024x5632 .f32) : FVec Ideal S4x8192x5632 .f32 :=
  Host.dotGeneral dot_S4x8192x1024_S1024x5632_S4x8192x5632_2_0_01_1_n_n none x w

/-- A row of zeros before and after every sequence. -/
def rPad (h : FVec Ideal S4x8192x5632 .f32) : FVec Ideal S4x8194x5632 .f32 :=
  pad S4x8194x5632 ![0, 1, 0] ![0, 1, 0] ![0, 0, 0] h (sitofp (F := Ideal) .f32 (constantI S_ 32 0#32)) pads_S4x8192x5632_S4x8194x5632_000_110_000 h_S_

/-- The convolution over three rows, with its bias. -/
def rConv (p : FVec Ideal S4x8194x5632 .f32) (cw : FVec Ideal S3x5632 .f32) (cb : FVec Ideal S5632 .f32) : FVec Ideal S4x8192x5632 .f32 :=
  addf (addf (addf (addf (broadcastInDim S4x8192x5632 ![] bcast_S_S4x8192x5632 (constant S_ .f32 0x00000000#32))
      (mulf (extractStridedSlice S4x8192x5632 ![0, 0, 0] p slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast S5632 (extractStridedSlice S1x5632 ![0, 0] cw slices_S3x5632_S1x5632_0_0) shapeCasts_S1x5632_S5632)))))
      (mulf (extractStridedSlice S4x8192x5632 ![0, 1, 0] p slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast S5632 (extractStridedSlice S1x5632 ![1, 0] cw slices_S3x5632_S1x5632_1_0) shapeCasts_S1x5632_S5632)))))
      (mulf (extractStridedSlice S4x8192x5632 ![0, 2, 0] p slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast S5632 (extractStridedSlice S1x5632 ![2, 0] cw slices_S3x5632_S1x5632_2_0) shapeCasts_S1x5632_S5632)))))
    (broadcastInDim S4x8192x5632 ![0, 1, 2] bcast_S1x1x5632_S4x8192x5632_0_1_2 (broadcastInDim S1x1x5632 ![2] bcast_S5632_S1x1x5632_2 cb))

/-- The gate half of the convolved columns. -/
def rGate (h : FVec Ideal S4x8192x5632 .f32) : FVec Ideal S4x8192x2816 .f32 :=
  extractStridedSlice S4x8192x2816 ![0, 0, 0] h slices_S4x8192x5632_S4x8192x2816_0_0_0

/-- The gated activation. -/
def rAct (h : FVec Ideal S4x8192x5632 .f32) : FVec Ideal S4x8192x2816 .f32 :=
  mulf (mulf (mulf (broadcastInDim S4x8192x2816 ![] bcast_S_S4x8192x2816 (constant S_ .f32 0x3F000000#32)) (rGate h))
      (Host.erfc (Host.divf (Host.negf (rGate h)) (broadcastInDim S4x8192x2816 ![] bcast_S_S4x8192x2816 (Host.sqrt (constant S_ .f32 0x40000000#32))))))
    (extractStridedSlice S4x8192x2816 ![0, 0, 2816] h slices_S4x8192x5632_S4x8192x2816_0_0_2816)

/-- The scaled input plus the down projection. -/
def rSum (x : FVec Ideal S4x8192x1024 .f32) (a : FVec Ideal S4x8192x2816 .f32) (wd : FVec Ideal S2816x1024 .f32) : FVec Ideal S4x8192x1024 .f32 :=
  addf (mulf (broadcastInDim S4x8192x1024 ![] bcast_S_S4x8192x1024 (Host.sqrt (Host.sqrt (constant S_ .f32 0x40800000#32)))) x)
    (Host.dotGeneral dot_S4x8192x2816_S2816x1024_S4x8192x1024_2_0_01_1_n_n none a wd)

/-- The mean of every token's features. -/
def rMean (z : FVec Ideal S4x8192x1024 .f32) : FVec Ideal S4x8192x1 .f32 :=
  Host.divf (broadcastInDim S4x8192x1 ![0, 1] bcast_S4x8192_S4x8192x1_0_1 (Host.reduceAdd z (constant S_ .f32 0x00000000#32) reducesTo_S4x8192x1024_S4x8192_d2 h_S_))
    (broadcastInDim S4x8192x1 ![] bcast_S_S4x8192x1 (constant S_ .f32 0x44800000#32))

/-- The features about their mean. -/
def rCen (z : FVec Ideal S4x8192x1024 .f32) : FVec Ideal S4x8192x1024 .f32 :=
  subf z (broadcastInDim S4x8192x1024 ![0, 1, 2] bcast_S4x8192x1_S4x8192x1024_0_1_2 (rMean z))

/-- The centered features over their deviation, scaled and shifted. -/
def rNorm (z : FVec Ideal S4x8192x1024 .f32) (g b : FVec Ideal S1024 .f32) : FVec Ideal S4x8192x1024 .f32 :=
  addf (mulf (mulf z (broadcastInDim S4x8192x1024 ![0, 1, 2] bcast_S4x8192x1_S4x8192x1024_0_1_2
      (Host.rsqrt (addf (rMean (mulf z z)) (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

/-- The reference's result from its arguments. -/
def rRes (x : FVec Ideal S4x8192x1024 .f32) (w : FVec Ideal S1024x5632 .f32) (cw : FVec Ideal S3x5632 .f32) (cb : FVec Ideal S5632 .f32)
    (wd : FVec Ideal S2816x1024 .f32) (g b : FVec Ideal S1024 .f32) : FVec Ideal S4x8192x1024 .f32 :=
  rNorm (rCen (rSum x (rAct (rConv (rPad (rUp x w)) cw cb)) wd)) g b

/-- An element of the up projection. -/
theorem rUp_at (x : FVec Ideal S4x8192x1024 .f32) (w : FVec Ideal S1024x5632 .f32) (b : Fin 4) (i : Fin 8192) (f : Fin 5632) :
    rUp x w (ix3 b i f) = ∑ d : Fin 1024, x (ix3 b i d) * w (ix2 d f) := by
  pointwise [rUp]

/-- A padded row: zero at the ends, else the row before it. -/
theorem rPad_at (h : FVec Ideal S4x8192x5632 .f32) (b : Fin 4) (p : Fin 8194) (f : Fin 5632) :
    rPad h (ix3 b p f) = if hp : 1 ≤ p.val ∧ p.val < 8193 then h (ix3 b ⟨p.val - 1, by omega⟩ f) else (0 : EReal) := by
  pointwise [rPad]
  have z : (FloatOps.sitofp (F := Ideal) FTy.f32 0#32 : EReal) = 0 := by
    show (((0#32 : BitVec 32).toInt : ℝ) : EReal) = 0
    norm_num
  by_cases hp : 1 ≤ p.val ∧ p.val < 8193
  · rw [dif_pos hp, dif_pos ⟨hp.1, by omega⟩]
  · rw [dif_neg hp, dif_neg (by omega)]
    exact z

/-- An element of the convolution. -/
theorem rConv_at (p : FVec Ideal S4x8194x5632 .f32) (cw : FVec Ideal S3x5632 .f32) (cb : FVec Ideal S5632 .f32) (b : Fin 4) (i : Fin 8192) (f : Fin 5632) :
    rConv p cw cb (ix3 b i f) = p (ix3 b ⟨i.val, by omega⟩ f) * cw (ix2 0 f) + p (ix3 b ⟨1 + i.val, by omega⟩ f) * cw (ix2 1 f)
      + p (ix3 b ⟨2 + i.val, by omega⟩ f) * cw (ix2 2 f) + cb (ix1 f) := by
  pointwise [rConv]

/-- An element of the activation. -/
theorem rAct_at (h : FVec Ideal S4x8192x5632 .f32) (b : Fin 4) (i : Fin 8192) (f : Fin 2816) :
    rAct h (ix3 b i f) = Ideal.ofBits FTy.f32 0x3F000000#32 * h (ix3 b i ⟨f.val, by omega⟩)
      * Ideal.erfc (Ideal.div (-h (ix3 b i ⟨f.val, by omega⟩)) (Ideal.sqrt (Ideal.ofBits FTy.f32 0x40000000#32))) * h (ix3 b i ⟨2816 + f.val, by omega⟩) := by
  pointwise [rAct, rGate]

/-- An element of the sum. -/
theorem rSum_at (x : FVec Ideal S4x8192x1024 .f32) (a : FVec Ideal S4x8192x2816 .f32) (wd : FVec Ideal S2816x1024 .f32) (b : Fin 4) (i : Fin 8192) (d : Fin 1024) :
    rSum x a wd (ix3 b i d) = Ideal.sqrt (Ideal.sqrt (Ideal.ofBits FTy.f32 0x40800000#32)) * x (ix3 b i d) + ∑ f : Fin 2816, a (ix3 b i f) * wd (ix2 f d) := by
  pointwise [rSum]

/-- A centered feature. -/
theorem rCen_at (z : FVec Ideal S4x8192x1024 .f32) (b : Fin 4) (i : Fin 8192) (d : Fin 1024) :
    rCen z (ix3 b i d) = z (ix3 b i d) - Ideal.div (∑ k : Fin 1024, z (ix3 b i k)) (Ideal.ofBits FTy.f32 0x44800000#32) := by
  pointwise [rCen, rMean]

/-- A result element. -/
theorem rNorm_at (z : FVec Ideal S4x8192x1024 .f32) (g s : FVec Ideal S1024 .f32) (b : Fin 4) (i : Fin 8192) (d : Fin 1024) :
    rNorm z g s (ix3 b i d) = z (ix3 b i d) * Ideal.rsqrt (Ideal.div (∑ k : Fin 1024, z (ix3 b i k) * z (ix3 b i k)) (Ideal.ofBits FTy.f32 0x44800000#32)
      + Ideal.ofBits FTy.f32 0x3727C5AC#32) * g (ix1 d) + s (ix1 d) := by
  pointwise [rNorm, rMean]

/-- The reference runs and ends with its result at `rRes` of the arguments, which are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = rRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference2Ideal.Value.run m ρ

end Cert.Proof.FFN.Ref
end
-- ==== Proof.FFN.Equal.lean ====
/-
  A grid point's output block is the reference's, element by element.
-/
module

public import proofs.«01_k».proof.Proof.FFN.Tile
public import proofs.«01_k».proof.Proof.FFN.Ref
public import Idealize.ShloMosaic.PureOps.Ideal.Laws

@[expose] public section

set_option maxRecDepth 16384

noncomputable section

namespace Cert.Proof.FFN

open Cert.Kernel2Ideal Cert.Kernel2Ideal.Gen Cert.Proof.FFN.Ref
open Idealize.ShloMosaic Idealize.ShloMosaic.TcCoe Idealize.ShloMosaic.Tactic

/-- The named half root is the reciprocal of the root of two. -/
theorem named_half : Named.named (F := Ideal) (φ := .f32) κ "sqrt_half" 0x3F3504F3#32 = (((Real.sqrt 2)⁻¹ : ℝ) : EReal) := by
  simp [Named.named, κ]

/-- The named residual factor is the root of two. -/
theorem named_alpha : Named.named (F := Ideal) (φ := .f32) κ "alpha" 0x3FB504F3#32 = ((Real.sqrt 2 : ℝ) : EReal) := by
  simp [Named.named, κ]

/-- The root of the constant two. -/
theorem root_two : Ideal.sqrt (Ideal.ofBits FTy.f32 0x40000000#32) = ((Real.sqrt 2 : ℝ) : EReal) := by
  have h : Ideal.ofBits FTy.f32 0x40000000#32 = ((2 : ℝ) : EReal) := by
    simp [Ideal.ofBits, Ideal.ieee, -EReal.coe_mul]; norm_num
  rw [h, Ideal.sqrt_coe, if_neg (by norm_num)]

/-- The root of the root of the constant four is the root of two. -/
theorem root_root_four : Ideal.sqrt (Ideal.sqrt (Ideal.ofBits FTy.f32 0x40800000#32)) = ((Real.sqrt 2 : ℝ) : EReal) := by
  have h : Ideal.ofBits FTy.f32 0x40800000#32 = ((4 : ℝ) : EReal) := by
    simp [Ideal.ofBits, Ideal.ieee, -EReal.coe_mul]; norm_num
  have h4 : Real.sqrt 4 = 2 := by rw [show (4 : ℝ) = 2 ^ 2 by norm_num]; exact Real.sqrt_sq (by norm_num)
  rw [h, Ideal.sqrt_coe, if_neg (by norm_num), h4, Ideal.sqrt_coe, if_neg (by norm_num)]

/-- The reference's complementary error function of the negated gate is the kernel's one plus error function. -/
theorem erfc_gate (g : EReal) : Ideal.erfc (Ideal.div (-g) (Ideal.sqrt (Ideal.ofBits FTy.f32 0x40000000#32)))
    = 1 + Ideal.erf (g * Named.named (F := Ideal) (φ := .f32) κ "sqrt_half" 0x3F3504F3#32) := by
  rw [root_two, named_half, Ideal.div_coe (Real.sqrt_pos.2 (by norm_num)).ne', one_div, neg_mul, Ideal.erfc_neg]

/-- The staged rows a token needs: the token's neighbours, or zeros outside the sequence. -/
theorem rows_global (i : grid0.Coords) (X : FVec Ideal S4x8192x1024 .f32) (x0 : FVec Ideal S1x1024x1024 .f32) (x1 x2 : FVec Ideal S1x16x1024 .f32) (b : Fin 4)
    (h0 : ∀ (r d : Fin 1024) (k : Fin 8192), k.val = 1024 * (i 1).val + r.val → x0 (ix3 0 r d) = X (ix3 b k d))
    (h1 : ∀ (r : Fin 16) (d : Fin 1024) (k : Fin 8192), k.val + 16 = 1024 * (i 1).val + r.val → x1 (ix3 0 r d) = X (ix3 b k d))
    (h2 : ∀ (r : Fin 16) (d : Fin 1024) (k : Fin 8192), k.val = 1024 * (i 1).val + 1024 + r.val → x2 (ix3 0 r d) = X (ix3 b k d))
    (p : Fin 1056) (hp : 15 ≤ p.val) (hp' : p.val ≤ 1040) (d : Fin 1024) (q : Fin 8194) (hq : q.val + 15 = 1024 * (i 1).val + p.val) :
    rows (F := Ideal) i x0 x1 x2 (ix2 p d) = if h : 1 ≤ q.val ∧ q.val < 8193 then X (ix3 b ⟨q.val - 1, by omega⟩ d) else (0 : EReal) := by
  have hi : (i 1).val < 8 := (i 1).isLt
  rw [rows_at]
  by_cases c1 : p.val < 16
  · rw [dif_pos c1]
    by_cases c : 0 < (i 1).val
    · rw [if_pos c, dif_pos (by omega)]
      exact h1 _ d _ (by show q.val - 1 + 16 = _ + p.val; omega)
    · rw [if_neg c, dif_neg (by omega)]
  rw [dif_neg c1]
  by_cases c2 : p.val < 1040
  · rw [dif_pos c2, dif_pos (by omega)]
    exact h0 _ d _ (by show q.val - 1 = _ + (p.val - 16); omega)
  · rw [dif_neg c2]
    by_cases c : (i 1).val < 7
    · rw [if_pos c, dif_pos (by omega)]
      exact h2 _ d _ (by show q.val - 1 = _ + (p.val - 1040); omega)
    · rw [if_neg c, dif_neg (by omega)]

/-- A staged row's product with a column of the weights is the reference's padded up projection there. -/
theorem dotRow_global (xb : FVec Ideal S1056x1024 .bf16) (X : FVec Ideal S4x8192x1024 .f32) (W : FVec Ideal S1024x5632 .f32) (b : Fin 4) (p : Fin 1056) (q : Fin 8194)
    (h : ∀ d : Fin 1024, xb (ix2 p d) = if h : 1 ≤ q.val ∧ q.val < 8193 then X (ix3 b ⟨q.val - 1, by omega⟩ d) else (0 : EReal)) (f : Fin 5632) :
    dotRow xb W p f = rPad (rUp X W) (ix3 b q f) := by
  rw [rPad_at]
  unfold dotRow
  by_cases c : 1 ≤ q.val ∧ q.val < 8193
  · rw [dif_pos c, rUp_at]
    refine Finset.sum_congr rfl fun d _ => ?_
    rw [h d, dif_pos c]
  · rw [dif_neg c]
    refine Finset.sum_eq_zero fun d _ => ?_
    rw [h d, dif_neg c, zero_mul]

/-- The blocks of one grid point, as parts of the whole arrays. -/
structure Blocks (i : grid0.Coords) (X : FVec Ideal S4x8192x1024 .f32) (cb : FVec Ideal S5632 .f32) (g s : FVec Ideal S1024 .f32)
    (x0 : FVec Ideal S1x1024x1024 .f32) (x1 x2 : FVec Ideal S1x16x1024 .f32) (x5 : FVec Ideal S1x5632 .f32) (x7 x8 : FVec Ideal S1x1024 .f32) (b : Fin 4) : Prop where
  tile : ∀ (r d : Fin 1024) (k : Fin 8192), k.val = 1024 * (i 1).val + r.val → x0 (ix3 0 r d) = X (ix3 b k d)
  before : ∀ (r : Fin 16) (d : Fin 1024) (k : Fin 8192), k.val + 16 = 1024 * (i 1).val + r.val → x1 (ix3 0 r d) = X (ix3 b k d)
  after : ∀ (r : Fin 16) (d : Fin 1024) (k : Fin 8192), k.val = 1024 * (i 1).val + 1024 + r.val → x2 (ix3 0 r d) = X (ix3 b k d)
  bias : ∀ f : Fin 5632, x5 (ix2 0 f) = cb (ix1 f)
  scale : ∀ d : Fin 1024, x7 (ix2 0 d) = g (ix1 d)
  shift : ∀ d : Fin 1024, x8 (ix2 0 d) = s (ix1 d)

variable {i : grid0.Coords} {X : FVec Ideal S4x8192x1024 .f32} {cb : FVec Ideal S5632 .f32} {g s : FVec Ideal S1024 .f32}
    {x0 : FVec Ideal S1x1024x1024 .f32} {x1 x2 : FVec Ideal S1x16x1024 .f32} {x5 : FVec Ideal S1x5632 .f32} {x7 x8 : FVec Ideal S1x1024 .f32} {b : Fin 4}

/-- A convolved element of a grid point is the reference's at the token. -/
theorem cell_global (B : Blocks i X cb g s x0 x1 x2 x5 x7 x8 b) (W : FVec Ideal S1024x5632 .f32) (cw : FVec Ideal S3x5632 .f32)
    (r : Fin 1024) (k : Fin 8192) (hk : k.val = 1024 * (i 1).val + r.val) (f : Fin 5632) :
    cell (rows (F := Ideal) i x0 x1 x2) W cw x5 r f = rConv (rPad (rUp X W)) cw cb (ix3 b k f) := by
  rw [rConv_at]
  unfold cell
  rw [dotRow_global _ X W b ⟨15 + r.val, by omega⟩ ⟨k.val, by omega⟩ (fun d => rows_global i X x0 x1 x2 b B.tile B.before B.after _ (by show 15 ≤ 15 + r.val; omega) (by show 15 + r.val ≤ 1040; omega) d _ (by show k.val + 15 = _ + (15 + r.val); omega)) f,
    dotRow_global _ X W b ⟨16 + r.val, by omega⟩ ⟨1 + k.val, by omega⟩ (fun d => rows_global i X x0 x1 x2 b B.tile B.before B.after _ (by show 15 ≤ 16 + r.val; omega) (by show 16 + r.val ≤ 1040; omega) d _ (by show 1 + k.val + 15 = _ + (16 + r.val); omega)) f,
    dotRow_global _ X W b ⟨17 + r.val, by omega⟩ ⟨2 + k.val, by omega⟩ (fun d => rows_global i X x0 x1 x2 b B.tile B.before B.after _ (by show 15 ≤ 17 + r.val; omega) (by show 17 + r.val ≤ 1040; omega) d _ (by show 2 + k.val + 15 = _ + (17 + r.val); omega)) f,
    B.bias f]

/-- An element of a grid point's activation is the reference's at the token. -/
theorem act_global (B : Blocks i X cb g s x0 x1 x2 x5 x7 x8 b) (W : FVec Ideal S1024x5632 .f32) (cw : FVec Ideal S3x5632 .f32)
    (r : Fin 1024) (k : Fin 8192) (hk : k.val = 1024 * (i 1).val + r.val) (f : Fin 2816) :
    act (F := Ideal) (rows (F := Ideal) i x0 x1 x2) W cw x5 (ix2 r f) = rAct (rConv (rPad (rUp X W)) cw cb) (ix3 b k f) := by
  rw [act_at, rAct_at, cell_global B W cw r k hk, cell_global B W cw r k hk, erfc_gate]
  rfl

/-- An element of a grid point's output block is the reference's at the token. -/
theorem down_global (B : Blocks i X cb g s x0 x1 x2 x5 x7 x8 b) (W : FVec Ideal S1024x5632 .f32) (cw : FVec Ideal S3x5632 .f32) (wd : FVec Ideal S2816x1024 .f32)
    (r d : Fin 1024) (k : Fin 8192) (hk : k.val = 1024 * (i 1).val + r.val) :
    down (F := Ideal) (act (F := Ideal) (rows (F := Ideal) i x0 x1 x2) W cw x5) wd x0 x7 x8 (ix3 0 r d) = rRes X W cw cb wd g s (ix3 b k d) := by
  have cen : ∀ d : Fin 1024, k0_pay53 (F := Ideal) (act (F := Ideal) (rows (F := Ideal) i x0 x1 x2) W cw x5) wd x0 (ix2 r d)
      = rCen (rSum X (rAct (rConv (rPad (rUp X W)) cw cb)) wd) (ix3 b k d) := fun d => by
    rw [cen_at, rCen_at]
    have z : ∀ d : Fin 1024, Named.named (F := Ideal) (φ := .f32) κ "alpha" 0x3FB504F3#32 * x0 (ix3 0 r d)
        + ∑ f : Fin 2816, act (F := Ideal) (rows (F := Ideal) i x0 x1 x2) W cw x5 (ix2 r f) * wd (ix2 f d)
        = rSum X (rAct (rConv (rPad (rUp X W)) cw cb)) wd (ix3 b k d) := fun d => by
      rw [rSum_at, named_alpha, root_root_four, B.tile r d k hk]
      refine congrArg _ (Finset.sum_congr rfl fun f _ => ?_)
      rw [act_global B W cw r k hk]
    rw [z d]
    rw [Finset.sum_congr rfl fun d' _ => z d']
  unfold rRes
  rw [down_at, var_at, rNorm_at, cen d, B.scale, B.shift]
  rw [Finset.sum_congr rfl fun d' _ => congrArg₂ (· * ·) (cen d') (cen d')]

end Cert.Proof.FFN

end
-- ==== Proof.FFN.Final.lean ====
/-
  The result array after the run of the channel-block kernel: the reference's result from the same arguments.
-/
module

public import proofs.«01_k».proof.Proof.FFN.Equal
public import Idealize.ShloMosaic.Lib.Claim

@[expose] public section

set_option maxRecDepth 16384

noncomputable section

namespace Cert.Proof.FFN

open Cert.Kernel2Ideal Cert.Kernel2Ideal.Gen Cert.Proof.FFN.Ref
open Idealize.ShloMosaic Idealize.ShloMosaic.TcCoe Idealize.ShloMosaic.Tactic
open Idealize.SL.Sem
open Idealize.ShloMosaic.Pipeline (Dat Cfg Window BodyObligation cellOf)

/-- The block of the tile at a grid point. -/
theorem idx0_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
/-- The block of the halo before at a grid point. -/
theorem idx0_1 : ∀ t : Fin cfg0.N, win0_1.index t = ![(grid0.coords t 0).val, (grid0.coords t 1).val * 64 - 1, 0] :=
  (by decide +kernel : ∀ t : Fin grid0.N, win0_1.index t = ![(grid0.coords t 0).val, (grid0.coords t 1).val * 64 - 1, 0])
/-- The block of the halo after at a grid point. -/
theorem idx0_2 : ∀ t : Fin cfg0.N, win0_2.index t = ![(grid0.coords t 0).val, min (((grid0.coords t 1).val + 1) * 64) 511, 0] :=
  (by decide +kernel : ∀ t : Fin grid0.N, win0_2.index t = ![(grid0.coords t 0).val, min (((grid0.coords t 1).val + 1) * 64) 511, 0])
/-- The up projection's block: the whole. -/
theorem idx0_3 : ∀ t : Fin cfg0.N, win0_3.index t = ![0, 0] :=
  (by decide +kernel : ∀ t : Fin grid0.N, win0_3.index t = ![0, 0])
/-- The convolution weights' block: the whole. -/
theorem idx0_4 : ∀ t : Fin cfg0.N, win0_4.index t = ![0, 0] :=
  (by decide +kernel : ∀ t : Fin grid0.N, win0_4.index t = ![0, 0])
/-- The convolution bias's block: the whole. -/
theorem idx0_5 : ∀ t : Fin cfg0.N, win0_5.index t = ![0, 0] :=
  (by decide +kernel : ∀ t : Fin grid0.N, win0_5.index t = ![0, 0])
/-- The down projection's block: the whole. -/
theorem idx0_6 : ∀ t : Fin cfg0.N, win0_6.index t = ![0, 0] :=
  (by decide +kernel : ∀ t : Fin grid0.N, win0_6.index t = ![0, 0])
/-- The scale's block: the whole. -/
theorem idx0_7 : ∀ t : Fin cfg0.N, win0_7.index t = ![0, 0] :=
  (by decide +kernel : ∀ t : Fin grid0.N, win0_7.index t = ![0, 0])
/-- The shift's block: the whole. -/
theorem idx0_8 : ∀ t : Fin cfg0.N, win0_8.index t = ![0, 0] :=
  (by decide +kernel : ∀ t : Fin grid0.N, win0_8.index t = ![0, 0])
/-- The block of the result at a grid point. -/
theorem idx0_9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])

variable (m : (ℓ : Loc nD τ sig) → Buf (Elt Ideal) ℓ) (c : Dev nD) (t : Fin cfg0.N)

/-- The staged up projection is the argument. -/
theorem iblk3 : iblk (F := Ideal) m c 3 t = m ((c : Thread nD τ).loc main_arg1) := by
  funext x
  show V m c main_v0 ((win0_3.blk t).view.emb x) = _
  entry_read
  show m ((c : Thread nD τ).loc main_arg1) _ = _
  refine congrArg (m ((c : Thread nD τ).loc main_arg1)) (funext fun a => Fin.ext ?_)
  match a with
  | ⟨0, _⟩ => blk_simp [idx0_3]; all_goals rfl
  | ⟨1, _⟩ => blk_simp [idx0_3]; all_goals rfl

/-- The staged convolution weights are the argument. -/
theorem iblk4 : iblk (F := Ideal) m c 4 t = m ((c : Thread nD τ).loc main_arg2) := by
  funext x
  show V m c main_arg2 ((win0_4.blk t).view.emb x) = m ((c : Thread nD τ).loc main_arg2) _
  refine congrArg (m ((c : Thread nD τ).loc main_arg2)) (funext fun a => Fin.ext ?_)
  match a with
  | ⟨0, _⟩ => blk_simp [idx0_4]; all_goals rfl
  | ⟨1, _⟩ => blk_simp [idx0_4]; all_goals rfl

/-- The staged down projection is the argument. -/
theorem iblk6 : iblk (F := Ideal) m c 6 t = m ((c : Thread nD τ).loc main_arg4) := by
  funext x
  show V m c main_v2 ((win0_6.blk t).view.emb x) = _
  entry_read
  show m ((c : Thread nD τ).loc main_arg4) _ = _
  refine congrArg (m ((c : Thread nD τ).loc main_arg4)) (funext fun a => Fin.ext ?_)
  match a with
  | ⟨0, _⟩ => blk_simp [idx0_6]; all_goals rfl
  | ⟨1, _⟩ => blk_simp [idx0_6]; all_goals rfl

/-- A bias seen as one row. -/
theorem row5632 (v : FVec Ideal S5632 .f32) (f : Fin 5632) : shapeCast S1x5632 v shapeCasts_S5632_S1x5632 (ix2 0 f) = v (ix1 f) := by
  pointwise

/-- A vector of features seen as one row. -/
theorem row1024 (v : FVec Ideal S1024 .f32) (d : Fin 1024) : shapeCast S1x1024 v shapeCasts_S1024_S1x1024 (ix2 0 d) = v (ix1 d) := by
  pointwise

/-- The blocks a grid point stages are the parts of the arguments its tokens need. -/
theorem blocks : Blocks (grid0.coords t) (m ((c : Thread nD τ).loc main_arg0)) (m ((c : Thread nD τ).loc main_arg3)) (m ((c : Thread nD τ).loc main_arg5)) (m ((c : Thread nD τ).loc main_arg6))
    (iblk (F := Ideal) m c 0 t) (iblk (F := Ideal) m c 1 t) (iblk (F := Ideal) m c 2 t) (iblk (F := Ideal) m c 5 t) (iblk (F := Ideal) m c 7 t) (iblk (F := Ideal) m c 8 t)
    (grid0.coords t 0) where
  tile r d k hk := by
    show V m c main_arg0 ((win0_0.blk t).view.emb (ix3 0 r d)) = m ((c : Thread nD τ).loc main_arg0) _
    refine congrArg (m ((c : Thread nD τ).loc main_arg0)) (funext fun a => Fin.ext ?_)
    match a with
    | ⟨0, _⟩ => blk_simp [idx0_0]; all_goals rfl
    | ⟨1, _⟩ => blk_simp [idx0_0]; all_goals omega
    | ⟨2, _⟩ => blk_simp [idx0_0]; all_goals rfl
  before r d k hk := by
    have hr := r.isLt
    show V m c main_arg0 ((win0_1.blk t).view.emb (ix3 0 r d)) = m ((c : Thread nD τ).loc main_arg0) _
    refine congrArg (m ((c : Thread nD τ).loc main_arg0)) (funext fun a => Fin.ext ?_)
    match a with
    | ⟨0, _⟩ => blk_simp [idx0_1]; all_goals rfl
    | ⟨1, _⟩ => blk_simp [idx0_1]; all_goals omega
    | ⟨2, _⟩ => blk_simp [idx0_1]; all_goals rfl
  after r d k hk := by
    have hk' := k.isLt
    show V m c main_arg0 ((win0_2.blk t).view.emb (ix3 0 r d)) = m ((c : Thread nD τ).loc main_arg0) _
    refine congrArg (m ((c : Thread nD τ).loc main_arg0)) (funext fun a => Fin.ext ?_)
    match a with
    | ⟨0, _⟩ => blk_simp [idx0_2]; all_goals rfl
    | ⟨1, _⟩ => blk_simp [idx0_2]; all_goals omega
    | ⟨2, _⟩ => blk_simp [idx0_2]; all_goals rfl
  bias f := by
    show V m c main_v1 ((win0_5.blk t).view.emb (ix2 0 f)) = _
    rw [show (win0_5.blk t).view.emb (ix2 0 f) = (ix2 0 f : S1x5632.Idx) from funext fun a => Fin.ext (by
      match a with
      | ⟨0, _⟩ => blk_simp [idx0_5]; all_goals rfl
      | ⟨1, _⟩ => blk_simp [idx0_5]; all_goals rfl)]
    entry_read
    exact row5632 _ f
  scale d := by
    show V m c main_v3 ((win0_7.blk t).view.emb (ix2 0 d)) = _
    rw [show (win0_7.blk t).view.emb (ix2 0 d) = (ix2 0 d : S1x1024.Idx) from funext fun a => Fin.ext (by
      match a with
      | ⟨0, _⟩ => blk_simp [idx0_7]; all_goals rfl
      | ⟨1, _⟩ => blk_simp [idx0_7]; all_goals rfl)]
    entry_read
    exact row1024 _ d
  shift d := by
    show V m c main_v4 ((win0_8.blk t).view.emb (ix2 0 d)) = _
    rw [show (win0_8.blk t).view.emb (ix2 0 d) = (ix2 0 d : S1x1024.Idx) from funext fun a => Fin.ext (by
      match a with
      | ⟨0, _⟩ => blk_simp [idx0_8]; all_goals rfl
      | ⟨1, _⟩ => blk_simp [idx0_8]; all_goals rfl)]
    entry_read
    exact row1024 _ d

/-- The result array after the run is the reference's result. -/
theorem final_out : (dats m 0 c).arrAt 9 cfg0.N
    = rRes (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel) fun t hf y => ?_
  show (dats m 0 c).after 9 t y = _
  rw [after0_9]
  unfold outsAt0
  rw [out_eq, iblk3, iblk4, iblk6]
  have h0 : (y 0).val < 1 := (y 0).isLt
  have h1 : (y 1).val < 1024 := (y 1).isLt
  have h2 : (y 2).val < 1024 := (y 2).isLt
  have hi : (grid0.coords t 1).val < 8 := (grid0.coords t 1).isLt
  have ey : y = (ix3 0 ⟨(y 1).val, h1⟩ ⟨(y 2).val, h2⟩ : S1x1024x1024.Idx) := funext fun a => Fin.ext (by
    match a with
    | ⟨0, _⟩ => show (y 0).val = 0; omega
    | ⟨1, _⟩ => rfl
    | ⟨2, _⟩ => rfl)
  have ez : ((cfg0.win 9).blk t).view.emb y
      = (ix3 (grid0.coords t 0) ⟨1024 * (grid0.coords t 1).val + (y 1).val, by omega⟩ ⟨(y 2).val, h2⟩ : S4x8192x1024.Idx) := funext fun a => Fin.ext (by
    match a with
    | ⟨0, _⟩ => blk_simp [idx0_9]; all_goals (first | rfl | omega)
    | ⟨1, _⟩ =>
      blk_simp [idx0_9]
      show (grid0.coords t 1).val * 1024 + (y 1).val = 1024 * (grid0.coords t 1).val + (y 1).val
      omega
    | ⟨2, _⟩ => blk_simp [idx0_9]; all_goals rfl)
  rw [ez]
  refine (congrArg (down (F := Ideal) _ _ _ _ _) ey).trans ?_
  exact down_global (blocks m c t) _ _ _ _ _ _ rfl

end Cert.Proof.FFN

end
-- ==== Proof.Out.Ref.lean ====
/-
  The end of a mixer in the reference, read at an index: the heads side by side, their projection, the residual and the
  norm. The norm's steps are those of the channel block.
-/
module

public import proofs.«01_k».proof.Proof.Gen.Reference3Ideal.Run
public import proofs.«01_k».proof.Proof.Gen.Reference4Ideal.Run
public import proofs.«01_k».proof.Proof.FFN.Ref

@[expose] public section

set_option maxRecDepth 16384
noncomputable section

namespace Cert.Proof.Out
open Idealize.ShloMosaic Idealize.ShloMosaic.TcCoe Idealize.SL.Sem
open Cert.Reference3Ideal Cert.Reference3Ideal.Gen

/-- Eight heads of every token, side by side. -/
def tokens (a : FVec Ideal S4x8x16x64x512 .bf16) : FVec Ideal S4x8192x512 .f32 :=
  shapeCast S4x8192x512 (transpose S4x16x512x8x64 [0, 2, 4, 1, 3] (extf .f32 a bitsLt_bf16_f32) transposes_S4x8x16x64x512_S4x16x512x8x64_0_2_4_1_3) shapeCasts_S4x16x512x8x64_S4x8192x512

/-- Sixteen heads of every token, side by side. -/
def tokens16 (a : FVec Ideal Cert.Reference4Ideal.S4x16x16x64x512 .bf16) : FVec Ideal S4x8192x1024 .f32 :=
  shapeCast S4x8192x1024 (transpose Cert.Reference4Ideal.S4x16x512x16x64 [0, 2, 4, 1, 3] (extf .f32 a Cert.Reference4Ideal.Gen.bitsLt_bf16_f32)
    Cert.Reference4Ideal.Gen.transposes_S4x16x16x64x512_S4x16x512x16x64_0_2_4_1_3) Cert.Reference4Ideal.Gen.shapeCasts_S4x16x512x16x64_S4x8192x1024

/-- The heads of both attentions, side by side. -/
def both (a b : FVec Ideal S4x8192x512 .f32) : FVec Ideal S4x8192x1024 .f32 :=
  concatenate S4x8192x1024 2 [⟨S4x8192x512, a⟩, ⟨S4x8192x512, b⟩] concatenates_S4x8192x512_S4x8192x512_S4x8192x1024_d2

/-- The scaled input plus the projected heads. -/
def mix (x a : FVec Ideal S4x8192x1024 .f32) (w : FVec Ideal S1024x1024 .f32) : FVec Ideal S4x8192x1024 .f32 :=
  addf (mulf (broadcastInDim S4x8192x1024 ![] bcast_S_S4x8192x1024 (Host.sqrt (Host.sqrt (constant S_ .f32 0x40800000#32)))) x)
    (Host.dotGeneral dot_S4x8192x1024_S1024x1024_S4x8192x1024_2_0_01_1_n_n none a w)

/-- The normalized sum, the tokens of all rows one after another. -/
def ends (z : FVec Ideal S4x8192x1024 .f32) (g s : FVec Ideal S1024 .f32) : FVec Ideal S32768x1024 .f32 :=
  shapeCast S32768x1024 (FFN.Ref.rNorm (FFN.Ref.rCen z) g s) shapeCasts_S4x8192x1024_S32768x1024

/-- A feature of a token's heads. -/
theorem tokens_at (a : FVec Ideal S4x8x16x64x512 .bf16) (b : Fin 4) (i : Fin 8192) (f : Fin 512) :
    tokens a (ix3 b i f) = a (ix5 b ⟨f.val / 64, by omega⟩ ⟨i.val / 512, by omega⟩ ⟨f.val % 64, by omega⟩ ⟨i.val % 512, by omega⟩) := by
  pointwise [tokens]

/-- A feature of a token's sixteen heads. -/
theorem tokens16_at (a : FVec Ideal Cert.Reference4Ideal.S4x16x16x64x512 .bf16) (b : Fin 4) (i : Fin 8192) (f : Fin 1024) :
    tokens16 a (ix3 b i f) = a (ix5 b ⟨f.val / 64, by omega⟩ ⟨i.val / 512, by omega⟩ ⟨f.val % 64, by omega⟩ ⟨i.val % 512, by omega⟩) := by
  pointwise [tokens16]

/-- A feature of the first attention. -/
theorem both_left (a b : FVec Ideal S4x8192x512 .f32) (n : Fin 4) (i : Fin 8192) (f : Fin 512) :
    both a b (ix3 n i ⟨f.val, by omega⟩) = a (ix3 n i f) := by
  pointwise [both]

/-- A feature of the second attention. -/
theorem both_right (a b : FVec Ideal S4x8192x512 .f32) (n : Fin 4) (i : Fin 8192) (f : Fin 512) :
    both a b (ix3 n i ⟨512 + f.val, by omega⟩) = b (ix3 n i f) := by
  pointwise [both]

/-- An element of the sum. -/
theorem mix_at (x a : FVec Ideal S4x8192x1024 .f32) (w : FVec Ideal S1024x1024 .f32) (b : Fin 4) (i : Fin 8192) (d : Fin 1024) :
    mix x a w (ix3 b i d) = Ideal.sqrt (Ideal.sqrt (Ideal.ofBits FTy.f32 0x40800000#32)) * x (ix3 b i d) + ∑ k : Fin 1024, a (ix3 b i k) * w (ix2 k d) := by
  pointwise [mix]

/-- The norm of one token's features `z` at feature `d`. -/
def normRow (z : Fin 1024 → EReal) (g s : EReal) (d : Fin 1024) : EReal :=
  (z d - Ideal.div (∑ k, z k) (Ideal.ofBits FTy.f32 0x44800000#32))
    * Ideal.rsqrt (Ideal.div (∑ k, (z k - Ideal.div (∑ k, z k) (Ideal.ofBits FTy.f32 0x44800000#32)) * (z k - Ideal.div (∑ k, z k) (Ideal.ofBits FTy.f32 0x44800000#32)))
        (Ideal.ofBits FTy.f32 0x44800000#32) + Ideal.ofBits FTy.f32 0x3727C5AC#32) * g + s

/-- A result element: the norm of its token's features. -/
theorem ends_at (z : FVec Ideal S4x8192x1024 .f32) (g s : FVec Ideal S1024 .f32) (b : Fin 4) (i : Fin 8192) (d : Fin 1024) (k : Fin 32768)
    (hk : k.val = 8192 * b.val + i.val) :
    ends z g s (ix2 k d) = normRow (fun k => z (ix3 b i k)) (g (ix1 d)) (s (ix1 d)) d := by
  have e : ends z g s (ix2 k d) = FFN.Ref.rNorm (FFN.Ref.rCen z) g s (ix3 b i d) := by
    pointwise [ends]
    have eb : (⟨k.val / 8192, by omega⟩ : Fin 4) = b := Fin.ext (by show k.val / 8192 = b.val; omega)
    have ei : (⟨k.val % 8192, by omega⟩ : Fin 8192) = i := Fin.ext (by show k.val % 8192 = i.val; omega)
    rw [eb, ei]
  rw [e, FFN.Ref.rNorm_at, FFN.Ref.rCen_at]
  rw [Finset.sum_congr rfl fun k _ => congrArg₂ (· * ·) (FFN.Ref.rCen_at z b i k) (FFN.Ref.rCen_at z b i k)]
  rfl

end Cert.Proof.Out
end
-- ==== Proof.Out.Two.lean ====
/-
  The projection of both attentions of the first layer: what one grid point stores, and the result array after the run.
-/
module

public import proofs.«01_k».proof.Proof.Gen.Kernel3Ideal.Value
public import proofs.«01_k».proof.Proof.FFN.Equal
public import proofs.«01_k».proof.Proof.Out.Ref
public import Idealize.ShloMosaic.Lib.Pipeline.ValueKit
public import Idealize.ShloMosaic.Lib.Claim

@[expose] public section

set_option maxRecDepth 16384

noncomputable section

namespace Cert.Proof.Out.Two

open Cert.Kernel3Ideal Cert.Kernel3Ideal.Gen Cert.Proof.Out
open Idealize.ShloMosaic Idealize.ShloMosaic.TcCoe Idealize.ShloMosaic.Tactic
open Idealize.SL.Sem
open Idealize.ShloMosaic.Pipeline (Dat Cfg Window BodyObligation cellOf)

/-- The named residual factor is the root of two. -/
theorem named_alpha : Named.named (F := Ideal) (φ := .f32) κ "alpha" 0x3FB504F3#32 = ((Real.sqrt 2 : ℝ) : EReal) := by
  simp [Named.named, κ]

/-- The block of the input rows at a grid point. -/
theorem idx0_0 : ∀ t : Fin cfg0.N, win0_0.index t = ![(grid0.coords t 0).val, 0] :=
  (by decide +kernel : ∀ t : Fin grid0.N, win0_0.index t = ![(grid0.coords t 0).val, 0])
/-- The block of the first attention at a grid point. -/
theorem idx0_1 : ∀ t : Fin cfg0.N, win0_1.index t = ![(grid0.coords t 0).val / 16, 0, (grid0.coords t 0).val % 16, 0, 0] :=
  (by decide +kernel : ∀ t : Fin grid0.N, win0_1.index t = ![(grid0.coords t 0).val / 16, 0, (grid0.coords t 0).val % 16, 0, 0])
/-- The block of the second attention at a grid point. -/
theorem idx0_2 : ∀ t : Fin cfg0.N, win0_2.index t = ![(grid0.coords t 0).val / 16, 0, (grid0.coords t 0).val % 16, 0, 0] :=
  (by decide +kernel : ∀ t : Fin grid0.N, win0_2.index t = ![(grid0.coords t 0).val / 16, 0, (grid0.coords t 0).val % 16, 0, 0])
/-- The upper weights' block: the whole. -/
theorem idx0_3 : ∀ t : Fin cfg0.N, win0_3.index t = ![0, 0] :=
  (by decide +kernel : ∀ t : Fin grid0.N, win0_3.index t = ![0, 0])
/-- The lower weights' block: the whole. -/
theorem idx0_4 : ∀ t : Fin cfg0.N, win0_4.index t = ![0, 0] :=
  (by decide +kernel : ∀ t : Fin grid0.N, win0_4.index t = ![0, 0])
/-- The scale's block: the whole. -/
theorem idx0_5 : ∀ t : Fin cfg0.N, win0_5.index t = ![0, 0] :=
  (by decide +kernel : ∀ t : Fin grid0.N, win0_5.index t = ![0, 0])
/-- The shift's block: the whole. -/
theorem idx0_6 : ∀ t : Fin cfg0.N, win0_6.index t = ![0, 0] :=
  (by decide +kernel : ∀ t : Fin grid0.N, win0_6.index t = ![0, 0])
/-- The block of the result at a grid point. -/
theorem idx0_7 : ∀ t : Fin cfg0.N, win0_7.index t = ![(grid0.coords t 0).val, 0] :=
  (by decide +kernel : ∀ t : Fin grid0.N, win0_7.index t = ![(grid0.coords t 0).val, 0])

/-- A feature before the norm, of a grid point's row, from its blocks. -/
def feat (x : FVec Ideal S512x1024 .f32) (a b : FVec Ideal S1x8x1x64x512 .bf16) (u v : FVec Ideal S512x1024 .bf16) (r : Fin 512) (d : Fin 1024) : EReal :=
  Named.named (F := Ideal) (φ := .f32) κ "alpha" 0x3FB504F3#32 * x (ix2 r d)
    + (∑ f : Fin 512, a (ix5 0 ⟨f.val / 64, by omega⟩ 0 ⟨f.val % 64, by omega⟩ r) * u (ix2 f d)
      + ∑ f : Fin 512, b (ix5 0 ⟨f.val / 64, by omega⟩ 0 ⟨f.val % 64, by omega⟩ r) * v (ix2 f d))

/-- An element of the block a grid point stores: the norm of its row's features. -/
theorem stored_at (x : FVec Ideal S512x1024 .f32) (a b : FVec Ideal S1x8x1x64x512 .bf16) (u v : FVec Ideal S512x1024 .bf16) (g s : FVec Ideal S1x1024 .f32)
    (r : Fin 512) (d : Fin 1024) :
    out0_7 (F := Ideal) x a b u v g s (ix2 r d) = normRow (feat x a b u v r) (g (ix2 0 d)) (s (ix2 0 d)) d := by
  have e2 : (![0, 0] : Fin 2 → ℕ) = fun _ => 0 := by decide
  have e5 : (![0, 0, 0, 0, 0] : Fin 5 → ℕ) = fun _ => 0 := by decide
  unfold out0_7
  rw [View.canon_unit_zero e2]
  rw [View.ld_unit_zero (S := S512x1024) e2, View.ld_unit_zero (S := S512x1024) e2, View.ld_unit_zero (S := S512x1024) e2,
    View.ld_unit_zero (S := S1x8x1x64x512) e5, View.ld_unit_zero (S := S1x8x1x64x512) e5, View.ld_unit_zero (S := S1x1024) e2, View.ld_unit_zero (S := S1x1024) e2]
  pointwise [k0_pay1, k0_pay2, k0_pay3, k0_pay4, k0_pay5, k0_pay6]
  rfl

variable (m : (ℓ : Loc nD τ sig) → Buf (Elt Ideal) ℓ) (c : Dev nD) (t : Fin cfg0.N)

/-- A row of features seen as a matrix of one row. -/
theorem row1024 (v : FVec Ideal S1024 .f32) (d : Fin 1024) : shapeCast S1x1024 v shapeCasts_S1024_S1x1024 (ix2 0 d) = v (ix1 d) := by
  pointwise

/-- The rows of all batches one after another. -/
theorem rowsFlat (v : FVec Ideal S4x8192x1024 .f32) (k : Fin 32768) (d : Fin 1024) :
    shapeCast S32768x1024 v shapeCasts_S4x8192x1024_S32768x1024 (ix2 k d) = v (ix3 ⟨k.val / 8192, by omega⟩ ⟨k.val % 8192, by omega⟩ d) := by
  pointwise

/-- The input rows a grid point stages. -/
theorem blk0 (r : Fin 512) (d : Fin 1024) (b : Fin 4) (i : Fin 8192) (hk : 512 * (grid0.coords t 0).val + r.val = 8192 * b.val + i.val) :
    iblk (F := Ideal) m c 0 t (ix2 r d) = m ((c : Thread nD τ).loc main_arg0) (ix3 b i d) := by
  show V m c main_v0 ((win0_0.blk t).view.emb (ix2 r d)) = _
  rw [show (win0_0.blk t).view.emb (ix2 r d) = (ix2 ⟨512 * (grid0.coords t 0).val + r.val, by omega⟩ d : S32768x1024.Idx) from funext fun a => Fin.ext (by
    match a with
    | ⟨0, _⟩ =>
      blk_simp [idx0_0]
      show (grid0.coords t 0).val * 512 + r.val = 512 * (grid0.coords t 0).val + r.val
      omega
    | ⟨1, _⟩ => blk_simp [idx0_0]; all_goals rfl)]
  entry_read
  refine (rowsFlat _ _ d).trans (congrArg (m ((c : Thread nD τ).loc main_arg0)) (funext fun a => Fin.ext ?_))
  match a with
  | ⟨0, _⟩ => show (512 * (grid0.coords t 0).val + r.val) / 8192 = b.val; omega
  | ⟨1, _⟩ => show (512 * (grid0.coords t 0).val + r.val) % 8192 = i.val; omega
  | ⟨2, _⟩ => rfl

/-- The first attention's features that a grid point stages. -/
theorem blk1 (r f : Fin 512) (b : Fin 4) (i : Fin 8192) (hk : 512 * (grid0.coords t 0).val + r.val = 8192 * b.val + i.val) :
    iblk (F := Ideal) m c 1 t (ix5 0 ⟨f.val / 64, by omega⟩ 0 ⟨f.val % 64, by omega⟩ r) = tokens (m ((c : Thread nD τ).loc main_arg1)) (ix3 b i f) := by
  rw [tokens_at]
  show V m c main_arg1 ((win0_1.blk t).view.emb (ix5 0 ⟨f.val / 64, by omega⟩ 0 ⟨f.val % 64, by omega⟩ r)) = m ((c : Thread nD τ).loc main_arg1) _
  refine congrArg (m ((c : Thread nD τ).loc main_arg1)) (funext fun a => Fin.ext ?_)
  match a with
  | ⟨0, _⟩ => blk_simp [idx0_1]; all_goals omega
  | ⟨1, _⟩ => blk_simp [idx0_1]; all_goals rfl
  | ⟨2, _⟩ =>
    blk_simp [idx0_1]
    show (grid0.coords t 0).val % 16 + 0 = i.val / 512
    omega
  | ⟨3, _⟩ => blk_simp [idx0_1]; all_goals rfl
  | ⟨4, _⟩ =>
    blk_simp [idx0_1]
    show r.val = i.val % 512
    omega

/-- The second attention's features that a grid point stages. -/
theorem blk2 (r f : Fin 512) (b : Fin 4) (i : Fin 8192) (hk : 512 * (grid0.coords t 0).val + r.val = 8192 * b.val + i.val) :
    iblk (F := Ideal) m c 2 t (ix5 0 ⟨f.val / 64, by omega⟩ 0 ⟨f.val % 64, by omega⟩ r) = tokens (m ((c : Thread nD τ).loc main_arg2)) (ix3 b i f) := by
  rw [tokens_at]
  show V m c main_arg2 ((win0_2.blk t).view.emb (ix5 0 ⟨f.val / 64, by omega⟩ 0 ⟨f.val % 64, by omega⟩ r)) = m ((c : Thread nD τ).loc main_arg2) _
  refine congrArg (m ((c : Thread nD τ).loc main_arg2)) (funext fun a => Fin.ext ?_)
  match a with
  | ⟨0, _⟩ => blk_simp [idx0_2]; all_goals omega
  | ⟨1, _⟩ => blk_simp [idx0_2]; all_goals rfl
  | ⟨2, _⟩ =>
    blk_simp [idx0_2]
    show (grid0.coords t 0).val % 16 + 0 = i.val / 512
    omega
  | ⟨3, _⟩ => blk_simp [idx0_2]; all_goals rfl
  | ⟨4, _⟩ =>
    blk_simp [idx0_2]
    show r.val = i.val % 512
    omega

/-- The upper half of the weights. -/
theorem blk3 (f : Fin 512) (d : Fin 1024) :
    iblk (F := Ideal) m c 3 t (ix2 f d) = m ((c : Thread nD τ).loc main_arg3) (ix2 ⟨f.val, by omega⟩ d) := by
  show V m c main_v2 ((win0_3.blk t).view.emb (ix2 f d)) = _
  rw [show (win0_3.blk t).view.emb (ix2 f d) = (ix2 f d : S512x1024.Idx) from funext fun a => Fin.ext (by
    match a with
    | ⟨0, _⟩ => blk_simp [idx0_3]
    | ⟨1, _⟩ => blk_simp [idx0_3])]
  entry_read
  refine congrArg (m ((c : Thread nD τ).loc main_arg3)) (funext fun a => Fin.ext ?_)
  match a with
  | ⟨0, _⟩ => show 0 + f.val = f.val; omega
  | ⟨1, _⟩ => show 0 + d.val = d.val; omega

/-- The lower half of the weights. -/
theorem blk4 (f : Fin 512) (d : Fin 1024) :
    iblk (F := Ideal) m c 4 t (ix2 f d) = m ((c : Thread nD τ).loc main_arg3) (ix2 ⟨512 + f.val, by omega⟩ d) := by
  show V m c main_v4 ((win0_4.blk t).view.emb (ix2 f d)) = _
  rw [show (win0_4.blk t).view.emb (ix2 f d) = (ix2 f d : S512x1024.Idx) from funext fun a => Fin.ext (by
    match a with
    | ⟨0, _⟩ => blk_simp [idx0_4]
    | ⟨1, _⟩ => blk_simp [idx0_4])]
  entry_read
  refine congrArg (m ((c : Thread nD τ).loc main_arg3)) (funext fun a => Fin.ext ?_)
  match a with
  | ⟨0, _⟩ => rfl
  | ⟨1, _⟩ => show 0 + d.val = d.val; omega

/-- The scale. -/
theorem blk5 (d : Fin 1024) : iblk (F := Ideal) m c 5 t (ix2 0 d) = m ((c : Thread nD τ).loc main_arg4) (ix1 d) := by
  show V m c main_v5 ((win0_5.blk t).view.emb (ix2 0 d)) = _
  rw [show (win0_5.blk t).view.emb (ix2 0 d) = (ix2 0 d : S1x1024.Idx) from funext fun a => Fin.ext (by
    match a with
    | ⟨0, _⟩ => blk_simp [idx0_5]; all_goals rfl
    | ⟨1, _⟩ => blk_simp [idx0_5]; all_goals rfl)]
  entry_read
  exact row1024 _ d

/-- The shift. -/
theorem blk6 (d : Fin 1024) : iblk (F := Ideal) m c 6 t (ix2 0 d) = m ((c : Thread nD τ).loc main_arg5) (ix1 d) := by
  show V m c main_v6 ((win0_6.blk t).view.emb (ix2 0 d)) = _
  rw [show (win0_6.blk t).view.emb (ix2 0 d) = (ix2 0 d : S1x1024.Idx) from funext fun a => Fin.ext (by
    match a with
    | ⟨0, _⟩ => blk_simp [idx0_6]; all_goals rfl
    | ⟨1, _⟩ => blk_simp [idx0_6]; all_goals rfl)]
  entry_read
  exact row1024 _ d

/-- The reference's result from its arguments. -/
def res (x : FVec Ideal S4x8192x1024 .f32) (a b : FVec Ideal S4x8x16x64x512 .bf16) (w : FVec Ideal S1024x1024 .f32) (g s : FVec Ideal S1024 .f32) :
    FVec Ideal S32768x1024 .f32 :=
  ends (mix x (both (tokens a) (tokens b)) w) g s

/-- A feature before the norm is the reference's: the sum over both attentions' features, split. -/
theorem feat_eq (r : Fin 512) (d : Fin 1024) (b : Fin 4) (i : Fin 8192) (hk : 512 * (grid0.coords t 0).val + r.val = 8192 * b.val + i.val) :
    feat (iblk (F := Ideal) m c 0 t) (iblk (F := Ideal) m c 1 t) (iblk (F := Ideal) m c 2 t) (iblk (F := Ideal) m c 3 t) (iblk (F := Ideal) m c 4 t) r d
      = mix (m ((c : Thread nD τ).loc main_arg0)) (both (tokens (m ((c : Thread nD τ).loc main_arg1))) (tokens (m ((c : Thread nD τ).loc main_arg2))))
          (m ((c : Thread nD τ).loc main_arg3)) (ix3 b i d) := by
  unfold feat
  rw [mix_at, named_alpha, FFN.root_root_four, blk0 m c t r d b i hk]
  refine congrArg _ ?_
  refine Eq.trans ?_ (Fin.sum_univ_add (a := 512) (b := 512) (fun k : Fin 1024 =>
    both (tokens (m ((c : Thread nD τ).loc main_arg1))) (tokens (m ((c : Thread nD τ).loc main_arg2))) (ix3 b i k) * m ((c : Thread nD τ).loc main_arg3) (ix2 k d))).symm
  refine congrArg₂ (· + ·) (Finset.sum_congr rfl fun f _ => ?_) (Finset.sum_congr rfl fun f _ => ?_)
  · rw [blk1 m c t r f b i hk, blk3 m c t f d]
    exact congrArg (· * _) (both_left _ _ b i f).symm
  · rw [blk2 m c t r f b i hk, blk4 m c t f d]
    exact congrArg (· * _) (both_right _ _ b i f).symm

/-- The result array after the run is the reference's result. -/
theorem final_out : (dats m 0 c).arrAt 7 cfg0.N
    = res (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  show (dats m 0 c).after 7 t y = _
  rw [after0_7]
  have h0 : (y 0).val < 512 := (y 0).isLt
  have h1 : (y 1).val < 1024 := (y 1).isLt
  have hi : (grid0.coords t 0).val < 64 := (grid0.coords t 0).isLt
  have ey : y = (ix2 ⟨(y 0).val, h0⟩ ⟨(y 1).val, h1⟩ : S512x1024.Idx) := funext fun a => Fin.ext (by
    match a with
    | ⟨0, _⟩ => rfl
    | ⟨1, _⟩ => rfl)
  have ez : ((cfg0.win 7).blk t).view.emb y
      = (ix2 ⟨512 * (grid0.coords t 0).val + (y 0).val, by omega⟩ ⟨(y 1).val, h1⟩ : S32768x1024.Idx) := funext fun a => Fin.ext (by
    match a with
    | ⟨0, _⟩ =>
      blk_simp [idx0_7]
      show (grid0.coords t 0).val * 512 + (y 0).val = 512 * (grid0.coords t 0).val + (y 0).val
      omega
    | ⟨1, _⟩ => blk_simp [idx0_7]; all_goals rfl)
  have hk : 512 * (grid0.coords t 0).val + (y 0).val = 8192 * ((512 * (grid0.coords t 0).val + (y 0).val) / 8192) + (512 * (grid0.coords t 0).val + (y 0).val) % 8192 := by omega
  rw [ez]
  refine (congrArg (out0_7 (F := Ideal) _ _ _ _ _ _ _) ey).trans ?_
  unfold res
  rw [stored_at, ends_at _ _ _ ⟨(512 * (grid0.coords t 0).val + (y 0).val) / 8192, by omega⟩ ⟨(512 * (grid0.coords t 0).val + (y 0).val) % 8192, by omega⟩ _ _ hk,
    blk5, blk6]
  rw [show feat (iblk (F := Ideal) m c 0 t) (iblk (F := Ideal) m c 1 t) (iblk (F := Ideal) m c 2 t) (iblk (F := Ideal) m c 3 t) (iblk (F := Ideal) m c 4 t) ⟨(y 0).val, h0⟩ = _ from
    funext fun k => feat_eq m c t ⟨(y 0).val, h0⟩ k ⟨(512 * (grid0.coords t 0).val + (y 0).val) / 8192, by omega⟩ ⟨(512 * (grid0.coords t 0).val + (y 0).val) % 8192, by omega⟩ hk]

/-- The reference runs and ends with its result at `res` of the arguments, which are unchanged. -/
theorem ref_run (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v35)
        = res (m ((c.tc : Thread Cert.Reference3Ideal.nD Cert.Reference3Ideal.τ).loc Cert.Reference3Ideal.main_arg0))
            (m ((c.tc : Thread Cert.Reference3Ideal.nD Cert.Reference3Ideal.τ).loc Cert.Reference3Ideal.main_arg1))
            (m ((c.tc : Thread Cert.Reference3Ideal.nD Cert.Reference3Ideal.τ).loc Cert.Reference3Ideal.main_arg2))
            (m ((c.tc : Thread Cert.Reference3Ideal.nD Cert.Reference3Ideal.τ).loc Cert.Reference3Ideal.main_arg3))
            (m ((c.tc : Thread Cert.Reference3Ideal.nD Cert.Reference3Ideal.τ).loc Cert.Reference3Ideal.main_arg4))
            (m ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5) :=
  Cert.Reference3Ideal.Value.run m ρ

end Cert.Proof.Out.Two

end
-- ==== Proof.Out.One.lean ====
/-
  The projection of the one attention of the second layer: what one grid point stores, and the result array after the run.
-/
module

public import proofs.«01_k».proof.Proof.Gen.Kernel4Ideal.Value
public import proofs.«01_k».proof.Proof.FFN.Equal
public import proofs.«01_k».proof.Proof.Out.Ref
public import Idealize.ShloMosaic.Lib.Pipeline.ValueKit
public import Idealize.ShloMosaic.Lib.Claim

@[expose] public section

set_option maxRecDepth 16384

noncomputable section

namespace Cert.Proof.Out.One

open Cert.Kernel4Ideal Cert.Kernel4Ideal.Gen Cert.Proof.Out
open Idealize.ShloMosaic Idealize.ShloMosaic.TcCoe Idealize.ShloMosaic.Tactic
open Idealize.SL.Sem
open Idealize.ShloMosaic.Pipeline (Dat Cfg Window BodyObligation cellOf)

/-- The named residual factor is the root of two. -/
theorem named_alpha : Named.named (F := Ideal) (φ := .f32) κ "alpha" 0x3FB504F3#32 = ((Real.sqrt 2 : ℝ) : EReal) := by
  simp [Named.named, κ]

/-- The block of the input rows at a grid point. -/
theorem idx0_0 : ∀ t : Fin cfg0.N, win0_0.index t = ![(grid0.coords t 0).val, 0] :=
  (by decide +kernel : ∀ t : Fin grid0.N, win0_0.index t = ![(grid0.coords t 0).val, 0])
/-- The block of the attention at a grid point. -/
theorem idx0_1 : ∀ t : Fin cfg0.N, win0_1.index t = ![(grid0.coords t 0).val / 16, 0, (grid0.coords t 0).val % 16, 0, 0] :=
  (by decide +kernel : ∀ t : Fin grid0.N, win0_1.index t = ![(grid0.coords t 0).val / 16, 0, (grid0.coords t 0).val % 16, 0, 0])
/-- The weights' block: the whole. -/
theorem idx0_2 : ∀ t : Fin cfg0.N, win0_2.index t = ![0, 0] :=
  (by decide +kernel : ∀ t : Fin grid0.N, win0_2.index t = ![0, 0])
/-- The scale's block: the whole. -/
theorem idx0_3 : ∀ t : Fin cfg0.N, win0_3.index t = ![0, 0] :=
  (by decide +kernel : ∀ t : Fin grid0.N, win0_3.index t = ![0, 0])
/-- The shift's block: the whole. -/
theorem idx0_4 : ∀ t : Fin cfg0.N, win0_4.index t = ![0, 0] :=
  (by decide +kernel : ∀ t : Fin grid0.N, win0_4.index t = ![0, 0])
/-- The block of the result at a grid point. -/
theorem idx0_5 : ∀ t : Fin cfg0.N, win0_5.index t = ![(grid0.coords t 0).val, 0] :=
  (by decide +kernel : ∀ t : Fin grid0.N, win0_5.index t = ![(grid0.coords t 0).val, 0])

/-- A feature before the norm, of a grid point's row, from its blocks. -/
def feat (x : FVec Ideal S512x1024 .f32) (a : FVec Ideal S1x16x1x64x512 .bf16) (w : FVec Ideal S1024x1024 .bf16) (r : Fin 512) (d : Fin 1024) : EReal :=
  Named.named (F := Ideal) (φ := .f32) κ "alpha" 0x3FB504F3#32 * x (ix2 r d)
    + ∑ f : Fin 1024, a (ix5 0 ⟨f.val / 64, by omega⟩ 0 ⟨f.val % 64, by omega⟩ r) * w (ix2 f d)

/-- An element of the block a grid point stores: the norm of its row's features. -/
theorem stored_at (x : FVec Ideal S512x1024 .f32) (a : FVec Ideal S1x16x1x64x512 .bf16) (w : FVec Ideal S1024x1024 .bf16) (g s : FVec Ideal S1x1024 .f32)
    (r : Fin 512) (d : Fin 1024) :
    out0_5 (F := Ideal) x a w g s (ix2 r d) = normRow (feat x a w r) (g (ix2 0 d)) (s (ix2 0 d)) d := by
  have e2 : (![0, 0] : Fin 2 → ℕ) = fun _ => 0 := by decide
  have e5 : (![0, 0, 0, 0, 0] : Fin 5 → ℕ) = fun _ => 0 := by decide
  unfold out0_5
  rw [View.canon_unit_zero e2]
  rw [View.ld_unit_zero (S := S512x1024) e2, View.ld_unit_zero (S := S1024x1024) e2,
    View.ld_unit_zero (S := S1x16x1x64x512) e5, View.ld_unit_zero (S := S1x1024) e2, View.ld_unit_zero (S := S1x1024) e2]
  pointwise [k0_pay1]
  rfl

variable (m : (ℓ : Loc nD τ sig) → Buf (Elt Ideal) ℓ) (c : Dev nD) (t : Fin cfg0.N)

/-- A row of features seen as a matrix of one row. -/
theorem row1024 (v : FVec Ideal S1024 .f32) (d : Fin 1024) : shapeCast S1x1024 v shapeCasts_S1024_S1x1024 (ix2 0 d) = v (ix1 d) := by
  pointwise

/-- The rows of all batches one after another. -/
theorem rowsFlat (v : FVec Ideal S4x8192x1024 .f32) (k : Fin 32768) (d : Fin 1024) :
    shapeCast S32768x1024 v shapeCasts_S4x8192x1024_S32768x1024 (ix2 k d) = v (ix3 ⟨k.val / 8192, by omega⟩ ⟨k.val % 8192, by omega⟩ d) := by
  pointwise

/-- The input rows a grid point stages. -/
theorem blk0 (r : Fin 512) (d : Fin 1024) (b : Fin 4) (i : Fin 8192) (hk : 512 * (grid0.coords t 0).val + r.val = 8192 * b.val + i.val) :
    iblk (F := Ideal) m c 0 t (ix2 r d) = m ((c : Thread nD τ).loc main_arg0) (ix3 b i d) := by
  show V m c main_v0 ((win0_0.blk t).view.emb (ix2 r d)) = _
  rw [show (win0_0.blk t).view.emb (ix2 r d) = (ix2 ⟨512 * (grid0.coords t 0).val + r.val, by omega⟩ d : S32768x1024.Idx) from funext fun a => Fin.ext (by
    match a with
    | ⟨0, _⟩ =>
      blk_simp [idx0_0]
      show (grid0.coords t 0).val * 512 + r.val = 512 * (grid0.coords t 0).val + r.val
      omega
    | ⟨1, _⟩ => blk_simp [idx0_0]; all_goals rfl)]
  entry_read
  refine (rowsFlat _ _ d).trans (congrArg (m ((c : Thread nD τ).loc main_arg0)) (funext fun a => Fin.ext ?_))
  match a with
  | ⟨0, _⟩ => show (512 * (grid0.coords t 0).val + r.val) / 8192 = b.val; omega
  | ⟨1, _⟩ => show (512 * (grid0.coords t 0).val + r.val) % 8192 = i.val; omega
  | ⟨2, _⟩ => rfl

/-- The attention's features that a grid point stages. -/
theorem blk1 (r : Fin 512) (f : Fin 1024) (b : Fin 4) (i : Fin 8192) (hk : 512 * (grid0.coords t 0).val + r.val = 8192 * b.val + i.val) :
    iblk (F := Ideal) m c 1 t (ix5 0 ⟨f.val / 64, by omega⟩ 0 ⟨f.val % 64, by omega⟩ r) = tokens16 (m ((c : Thread nD τ).loc main_arg1)) (ix3 b i f) := by
  rw [tokens16_at]
  show V m c main_arg1 ((win0_1.blk t).view.emb (ix5 0 ⟨f.val / 64, by omega⟩ 0 ⟨f.val % 64, by omega⟩ r)) = m ((c : Thread nD τ).loc main_arg1) _
  refine congrArg (m ((c : Thread nD τ).loc main_arg1)) (funext fun a => Fin.ext ?_)
  match a with
  | ⟨0, _⟩ => blk_simp [idx0_1]; all_goals omega
  | ⟨1, _⟩ => blk_simp [idx0_1]; all_goals rfl
  | ⟨2, _⟩ =>
    blk_simp [idx0_1]
    show (grid0.coords t 0).val % 16 + 0 = i.val / 512
    omega
  | ⟨3, _⟩ => blk_simp [idx0_1]; all_goals rfl
  | ⟨4, _⟩ =>
    blk_simp [idx0_1]
    show r.val = i.val % 512
    omega

/-- The weights. -/
theorem blk2 (f d : Fin 1024) : iblk (F := Ideal) m c 2 t (ix2 f d) = m ((c : Thread nD τ).loc main_arg2) (ix2 f d) := by
  show V m c main_v1 ((win0_2.blk t).view.emb (ix2 f d)) = _
  rw [show (win0_2.blk t).view.emb (ix2 f d) = (ix2 f d : S1024x1024.Idx) from funext fun a => Fin.ext (by
    match a with
    | ⟨0, _⟩ => blk_simp [idx0_2]
    | ⟨1, _⟩ => blk_simp [idx0_2])]
  entry_read
  rfl

/-- The scale. -/
theorem blk3 (d : Fin 1024) : iblk (F := Ideal) m c 3 t (ix2 0 d) = m ((c : Thread nD τ).loc main_arg3) (ix1 d) := by
  show V m c main_v2 ((win0_3.blk t).view.emb (ix2 0 d)) = _
  rw [show (win0_3.blk t).view.emb (ix2 0 d) = (ix2 0 d : S1x1024.Idx) from funext fun a => Fin.ext (by
    match a with
    | ⟨0, _⟩ => blk_simp [idx0_3]; all_goals rfl
    | ⟨1, _⟩ => blk_simp [idx0_3]; all_goals rfl)]
  entry_read
  exact row1024 _ d

/-- The shift. -/
theorem blk4 (d : Fin 1024) : iblk (F := Ideal) m c 4 t (ix2 0 d) = m ((c : Thread nD τ).loc main_arg4) (ix1 d) := by
  show V m c main_v3 ((win0_4.blk t).view.emb (ix2 0 d)) = _
  rw [show (win0_4.blk t).view.emb (ix2 0 d) = (ix2 0 d : S1x1024.Idx) from funext fun a => Fin.ext (by
    match a with
    | ⟨0, _⟩ => blk_simp [idx0_4]; all_goals rfl
    | ⟨1, _⟩ => blk_simp [idx0_4]; all_goals rfl)]
  entry_read
  exact row1024 _ d

/-- The reference's result from its arguments. -/
def res (x : FVec Ideal S4x8192x1024 .f32) (a : FVec Ideal S4x16x16x64x512 .bf16) (w : FVec Ideal S1024x1024 .f32) (g s : FVec Ideal S1024 .f32) :
    FVec Ideal S32768x1024 .f32 :=
  ends (mix x (tokens16 a) w) g s

/-- A feature before the norm is the reference's. -/
theorem feat_eq (r : Fin 512) (d : Fin 1024) (b : Fin 4) (i : Fin 8192) (hk : 512 * (grid0.coords t 0).val + r.val = 8192 * b.val + i.val) :
    feat (iblk (F := Ideal) m c 0 t) (iblk (F := Ideal) m c 1 t) (iblk (F := Ideal) m c 2 t) r d
      = mix (m ((c : Thread nD τ).loc main_arg0)) (tokens16 (m ((c : Thread nD τ).loc main_arg1))) (m ((c : Thread nD τ).loc main_arg2)) (ix3 b i d) := by
  unfold feat
  rw [mix_at, named_alpha, FFN.root_root_four, blk0 m c t r d b i hk]
  refine congrArg _ (Finset.sum_congr rfl fun f _ => ?_)
  rw [blk1 m c t r f b i hk, blk2 m c t f d]

/-- The result array after the run is the reference's result. -/
theorem final_out : (dats m 0 c).arrAt 5 cfg0.N
    = res (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  show (dats m 0 c).after 5 t y = _
  rw [after0_5]
  have h0 : (y 0).val < 512 := (y 0).isLt
  have h1 : (y 1).val < 1024 := (y 1).isLt
  have hi : (grid0.coords t 0).val < 64 := (grid0.coords t 0).isLt
  have ey : y = (ix2 ⟨(y 0).val, h0⟩ ⟨(y 1).val, h1⟩ : S512x1024.Idx) := funext fun a => Fin.ext (by
    match a with
    | ⟨0, _⟩ => rfl
    | ⟨1, _⟩ => rfl)
  have ez : ((cfg0.win 5).blk t).view.emb y
      = (ix2 ⟨512 * (grid0.coords t 0).val + (y 0).val, by omega⟩ ⟨(y 1).val, h1⟩ : S32768x1024.Idx) := funext fun a => Fin.ext (by
    match a with
    | ⟨0, _⟩ =>
      blk_simp [idx0_5]
      show (grid0.coords t 0).val * 512 + (y 0).val = 512 * (grid0.coords t 0).val + (y 0).val
      omega
    | ⟨1, _⟩ => blk_simp [idx0_5]; all_goals rfl)
  have hk : 512 * (grid0.coords t 0).val + (y 0).val = 8192 * ((512 * (grid0.coords t 0).val + (y 0).val) / 8192) + (512 * (grid0.coords t 0).val + (y 0).val) % 8192 := by omega
  rw [ez]
  refine (congrArg (out0_5 (F := Ideal) _ _ _ _ _) ey).trans ?_
  unfold res
  rw [stored_at, ends_at _ _ _ ⟨(512 * (grid0.coords t 0).val + (y 0).val) / 8192, by omega⟩ ⟨(512 * (grid0.coords t 0).val + (y 0).val) % 8192, by omega⟩ _ _ hk,
    blk3, blk4]
  rw [show feat (iblk (F := Ideal) m c 0 t) (iblk (F := Ideal) m c 1 t) (iblk (F := Ideal) m c 2 t) ⟨(y 0).val, h0⟩ = _ from
    funext fun k => feat_eq m c t ⟨(y 0).val, h0⟩ k ⟨(512 * (grid0.coords t 0).val + (y 0).val) / 8192, by omega⟩ ⟨(512 * (grid0.coords t 0).val + (y 0).val) % 8192, by omega⟩ hk]

/-- The reference runs and ends with its result at `res` of the arguments, which are unchanged. -/
theorem ref_run (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v31)
        = res (m ((c.tc : Thread Cert.Reference4Ideal.nD Cert.Reference4Ideal.τ).loc Cert.Reference4Ideal.main_arg0))
            (m ((c.tc : Thread Cert.Reference4Ideal.nD Cert.Reference4Ideal.τ).loc Cert.Reference4Ideal.main_arg1))
            (m ((c.tc : Thread Cert.Reference4Ideal.nD Cert.Reference4Ideal.τ).loc Cert.Reference4Ideal.main_arg2))
            (m ((c.tc : Thread Cert.Reference4Ideal.nD Cert.Reference4Ideal.τ).loc Cert.Reference4Ideal.main_arg3))
            (m ((c.tc : Thread Cert.Reference4Ideal.nD Cert.Reference4Ideal.τ).loc Cert.Reference4Ideal.main_arg4))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) :=
  Cert.Reference4Ideal.Value.run m ρ

end Cert.Proof.Out.One

end
-- ==== Proof.KI.State.lean ====
/-
  The pure mathematics of one query tile of the latent-attention kernel, stated over the contents of the staged
  blocks: the chunks of keys and values, the running maximum and the running weighted sum, and the output tile.
-/
module

public import proofs.«01_k».proof.Proof.Gen.KernelIdeal.Skeleton
public import Idealize.ShloMosaic.Lib.Pointwise.Index
public import Idealize.ShloMosaic.Lib.VecWindow
public import Idealize.ShloMosaic.Lib.Exec

@[expose] public section

set_option maxRecDepth 16384

noncomputable section

namespace Cert.Proof.KI

open Cert.KernelIdeal Cert.KernelIdeal.Gen
open Idealize.ShloMosaic Idealize.SL.Sem

variable {F : FTy → Type} [FloatOps F] [Named F]

/-- Chunk `n` of the staged keys: rows `512 n` up to `512 n + 511`. -/
def kChunk (X : Vec F S1x8192x128 .bf16) (n : ℕ) : Vec F S1x512x128 .bf16 :=
  fun j => X (ix3 (n0 := 1) (n1 := 8192) (n2 := 128) (j 0) ⟨(512 * n + (j 1).val) % 8192, Nat.mod_lt _ (by decide)⟩ (j 2))

/-- Chunk `n` of the staged values, head width by key position. -/
def vChunk (X : Vec F S1x1x16x80x512 .bf16) (n : ℕ) : Vec F S1x1x1x80x512 .bf16 :=
  fun j => X (ix5 (n0 := 1) (n1 := 1) (n2 := 16) (n3 := 80) (n4 := 512) (j 0) (j 1) ⟨n % 16, Nat.mod_lt _ (by decide)⟩ (j 3) (j 4))

/-- The query tile of chunk `n` at lane offset `o`. -/
def qTile (X : Vec F S1x1x16x128x512 .bf16) (n o : ℕ) : Vec F S1x1x1x128x256 .bf16 :=
  fun j => X (ix5 (n0 := 1) (n1 := 1) (n2 := 16) (n3 := 128) (n4 := 512) (j 0) (j 1) ⟨n % 16, Nat.mod_lt _ (by decide)⟩ (j 3)
    ⟨(o + (j 4).val) % 512, Nat.mod_lt _ (by decide)⟩)

/-- The scores of a chunk of keys against a query tile. -/
abbrev scores (q : FVec F S128x256 .bf16) (kk : Vec F S1x512x128 .bf16) : FVec F S1x1x512x256 .f32 := Gen.k0_pay7 q kk

/-- The running maximum and the running weighted sum after `n` chunks of keys. -/
def state (q : FVec F S128x256 .bf16) (K : Vec F S1x8192x128 .bf16) (W : Vec F S1x1x16x80x512 .bf16) :
    ℕ → FVec F S1x256 .f32 × FVec F S80x256 .f32
  | 0 => (Gen.k0_pay44, Gen.k0_pay45)
  | n + 1 =>
    (Gen.k0_pay6 (state q K W n).1 (scores q (kChunk K n)),
      Gen.k0_pay30 (state q K W n).1 (state q K W n).2 (vChunk W n) (scores q (kChunk K n)))

/-- The output tile: the weighted sums over the sum of the weights. -/
abbrev outTile (q : FVec F S128x256 .bf16) (K : Vec F S1x8192x128 .bf16) (W : Vec F S1x1x16x80x512 .bf16) : FVec F S1x1x1x64x256 .bf16 :=
  Gen.k0_pay2 (state q K W 16).2

/-- A load of 512 rows of keys from row `512 n` reads chunk `n`. -/
theorem readAt_kChunk (M : Memref sig .tc .vmem S1x8192x128 .bf16) (f : M.view.ty.Contents (Elt F)) (n : ℕ) (hn : n < 16)
    {off : Fin 3 → ℕ} (h : off = ![0, 512 * n, 0]) (inb : ∀ a, off a + S1x512x128.size a ≤ S1x8192x128.size a) :
    View.readAt (Elt F) M.view (Rect.unit (s := S1x8192x128) off S1x512x128.size inb).toLoadRect f = kChunk (M.view.read (Elt F) f) n := by
  subst h
  funext j
  have h1 : (j 1).val < 512 := (j 1).isLt
  refine congrArg (M.view.read (Elt F) f) (funext fun a => Fin.ext ?_)
  match a with
  | ⟨0, _⟩ => show 0 + 1 * (j 0).val = (j 0).val; omega
  | ⟨1, _⟩ => show 512 * n + 1 * (j 1).val = (512 * n + (j 1).val) % 8192; omega
  | ⟨2, _⟩ => show 0 + 1 * (j 2).val = (j 2).val; omega

/-- A load of one key chunk's values reads that chunk. -/
theorem readAt_vChunk (M : Memref sig .tc .vmem S1x1x16x80x512 .bf16) (f : M.view.ty.Contents (Elt F)) (n : ℕ) (hn : n < 16)
    {off : Fin 5 → ℕ} (h : off = ![0, 0, n, 0, 0]) (inb : ∀ a, off a + S1x1x1x80x512.size a ≤ S1x1x16x80x512.size a) :
    View.readAt (Elt F) M.view (Rect.unit (s := S1x1x16x80x512) off S1x1x1x80x512.size inb).toLoadRect f = vChunk (M.view.read (Elt F) f) n := by
  subst h
  funext j
  have h2 : (j 2).val < 1 := (j 2).isLt
  refine congrArg (M.view.read (Elt F) f) (funext fun a => Fin.ext ?_)
  match a with
  | ⟨0, _⟩ => show 0 + 1 * (j 0).val = (j 0).val; omega
  | ⟨1, _⟩ => show 0 + 1 * (j 1).val = (j 1).val; omega
  | ⟨2, _⟩ => show n + 1 * (j 2).val = n % 16; omega
  | ⟨3, _⟩ => show 0 + 1 * (j 3).val = (j 3).val; omega
  | ⟨4, _⟩ => show 0 + 1 * (j 4).val = (j 4).val; omega

/-- A load of a query tile reads that tile. -/
theorem readAt_qTile (M : Memref sig .tc .vmem S1x1x16x128x512 .bf16) (f : M.view.ty.Contents (Elt F)) (n o : ℕ) (hn : n < 16) (ho : o ≤ 256)
    {off : Fin 5 → ℕ} (h : off = ![0, 0, n, 0, o]) (inb : ∀ a, off a + S1x1x1x128x256.size a ≤ S1x1x16x128x512.size a) :
    View.readAt (Elt F) M.view (Rect.unit (s := S1x1x16x128x512) off S1x1x1x128x256.size inb).toLoadRect f = qTile (M.view.read (Elt F) f) n o := by
  subst h
  funext j
  have h2 : (j 2).val < 1 := (j 2).isLt
  have h4 : (j 4).val < 256 := (j 4).isLt
  refine congrArg (M.view.read (Elt F) f) (funext fun a => Fin.ext ?_)
  match a with
  | ⟨0, _⟩ => show 0 + 1 * (j 0).val = (j 0).val; omega
  | ⟨1, _⟩ => show 0 + 1 * (j 1).val = (j 1).val; omega
  | ⟨2, _⟩ => show n + 1 * (j 2).val = n % 16; omega
  | ⟨3, _⟩ => show 0 + 1 * (j 3).val = (j 3).val; omega
  | ⟨4, _⟩ => show o + 1 * (j 4).val = (o + (j 4).val) % 512; omega

/-- One more chunk of keys, from the state before it: by definition. -/
theorem state_succ (q : FVec F S128x256 .bf16) (K : Vec F S1x8192x128 .bf16) (W : Vec F S1x1x16x80x512 .bf16) (n : ℕ) :
    state q K W (n + 1) = (Gen.k0_pay6 (state q K W n).1 (scores q (kChunk K n)),
      Gen.k0_pay30 (state q K W n).1 (state q K W n).2 (vChunk W n) (scores q (kChunk K n))) := rfl

end Cert.Proof.KI

end
-- ==== Proof.KI.Inner.lean ====
/-
  The loop over pairs of key chunks: before trip `k` the four query tiles carry their states after `2 k` chunks, and
  the first half of the scores buffer holds the scores of chunk `2 k`.
-/
module

public import proofs.«01_k».proof.Proof.KI.State
public import proofs.«01_k».proof.Proof.Gen.KernelIdeal.Loops
public import Idealize.ShloMosaic.Lib.Pipeline.ReadBack

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One slot of the scores buffer. -/
abbrev slot (a b : ℕ) (inb : ∀ x, (![a, b, 0, 0] : Fin 4 → ℕ) x + S1x1x512x256.size x ≤ S2x4x512x256.size x) : Rect S2x4x512x256 :=
  Rect.unit (s := S2x4x512x256) ![a, b, 0, 0] S1x1x512x256.size inb

/-- Two different slots do not meet. -/
theorem slot_disj {a b a' b' : ℕ} (h : a ≠ a' ∨ b ≠ b') (inb inb') :
    LoadRect.disj (slot a' b' inb') (slot a b inb).toLoadRect = true := by
  refine decide_eq_true ?_
  rcases h with h | h
  · refine ⟨0, Or.inr (Or.inr ?_)⟩
    show a' + 1 * (1 - 1) < a ∨ a + 1 * (1 - 1) < a'
    omega
  · refine ⟨1, Or.inr (Or.inr ?_)⟩
    show b' + 1 * (1 - 1) < b ∨ b + 1 * (1 - 1) < b'
    omega

/-- A load of one slot passes over a store to another. -/
theorem readCov_slot_ne (M : Memref sig .tc .vmem S2x4x512x256 .f32) {a b a' b' : ℕ} (h : a ≠ a' ∨ b ≠ b') (inb inb')
    (w : Vec F S1x1x512x256 .f32) (L : List (View.Piece (Elt F) S2x4x512x256 .f32)) :
    M.view.readCov ((⟨slot a' b' inb', w⟩ : View.Piece (Elt F) S2x4x512x256 .f32) :: L) (slot a b inb).toLoadRect
      = M.view.readCov L (slot a b inb).toLoadRect :=
  View.readCov_skip M.view (slot a' b' inb') w L _ (slot_disj h inb inb')

/-- A load of the slot stored last reads what was stored. -/
theorem readCov_slot_eq (M : Memref sig .tc .vmem S2x4x512x256 .f32) (a b : ℕ) (inb inb')
    (w : Vec F S1x1x512x256 .f32) (L : List (View.Piece (Elt F) S2x4x512x256 .f32)) :
    M.view.readCov ((⟨slot a b inb', w⟩ : View.Piece (Elt F) S2x4x512x256 .f32) :: L) (slot a b inb).toLoadRect = w :=
  View.readCov_cons_toLoadRect M.view (slot a b inb') w L

/-- A load of one slot from a buffer after stores passes over a store to another slot. -/
theorem readAt_slot_ne (M : Memref sig .tc .vmem S2x4x512x256 .f32) (f : M.view.ty.Contents (Elt F)) {a b a' b' : ℕ} (h : a ≠ a' ∨ b ≠ b') (inb inb')
    (w : Vec F S1x1x512x256 .f32) (L : List (View.Piece (Elt F) S2x4x512x256 .f32)) :
    M.view.readAt (Elt F) (slot a b inb).toLoadRect (M.view.writes (Elt F) f ((⟨slot a' b' inb', w⟩ : View.Piece (Elt F) S2x4x512x256 .f32) :: L))
      = M.view.readAt (Elt F) (slot a b inb).toLoadRect (M.view.writes (Elt F) f L) :=
  funext fun j => View.read_writes_cons_miss M.view f _ L _ (LoadRect.idx_not_mem_of_disj (slot_disj h inb inb') j)

/-- A load of the slot stored last, from a buffer after stores, reads what was stored. -/
theorem readAt_slot_eq (M : Memref sig .tc .vmem S2x4x512x256 .f32) (f : M.view.ty.Contents (Elt F)) (a b : ℕ) (inb inb')
    (w : Vec F S1x1x512x256 .f32) (L : List (View.Piece (Elt F) S2x4x512x256 .f32)) :
    M.view.readAt (Elt F) (slot a b inb).toLoadRect (M.view.writes (Elt F) f ((⟨slot a b inb', w⟩ : View.Piece (Elt F) S2x4x512x256 .f32) :: L)) = w :=
  funext fun j => View.read_writes_cons_emb M.view f (slot a b inb') w L j

/-- The four query tiles' states after `n` chunks, as the loop carries them. -/
abbrev states (q0 q1 q2 q3 : FVec F S128x256 .bf16) (K : Vec F S1x8192x128 .bf16) (W : Vec F S1x1x16x80x512 .bf16) (n : ℕ) :
    FVec F S1x256 .f32 × FVec F S80x256 .f32 × FVec F S1x256 .f32 × FVec F S80x256 .f32 × FVec F S1x256 .f32 × FVec F S80x256 .f32 × FVec F S1x256 .f32 × FVec F S80x256 .f32 :=
  ((state q0 K W n).1, (state q0 K W n).2, (state q1 K W n).1, (state q1 K W n).2, (state q2 K W n).1, (state q2 K W n).2,
    (state q3 K W n).1, (state q3 K W n).2)

/-- The first half of the scores buffer holds the four tiles' scores of chunk `n`. -/
structure Slot0 (M : Memref sig .tc .vmem S2x4x512x256 .f32) (f : M.view.ty.Contents (Elt F)) (q0 q1 q2 q3 : FVec F S128x256 .bf16)
    (K : Vec F S1x8192x128 .bf16) (n : ℕ) : Prop where
  h0 : View.readAt (Elt F) M.view (Rect.unit (s := S2x4x512x256) ![0, 0, 0, 0] S1x1x512x256.size inb_S2x4x512x256_S1x1x512x256_0_0_0_0).toLoadRect f = scores q0 (kChunk K n)
  h1 : View.readAt (Elt F) M.view (Rect.unit (s := S2x4x512x256) ![0, 1, 0, 0] S1x1x512x256.size inb_S2x4x512x256_S1x1x512x256_0_1_0_0).toLoadRect f = scores q1 (kChunk K n)
  h2 : View.readAt (Elt F) M.view (Rect.unit (s := S2x4x512x256) ![0, 2, 0, 0] S1x1x512x256.size inb_S2x4x512x256_S1x1x512x256_0_2_0_0).toLoadRect f = scores q2 (kChunk K n)
  h3 : View.readAt (Elt F) M.view (Rect.unit (s := S2x4x512x256) ![0, 3, 0, 0] S1x1x512x256.size inb_S2x4x512x256_S1x1x512x256_0_3_0_0).toLoadRect f = scores q3 (kChunk K n)

set_option maxHeartbeats 4000000 in
/-- One trip: two chunks folded into the four states, the scores of the chunk after them left in the first half. -/
theorem inner_trip (c : Dev nD) (i : grid0.Coords) (arg2 : Memref sig .tc .vmem S1x1x16x128x512 .bf16) (harg2 : arg2.IsWhole) (arg3 : Memref sig .tc .vmem S1x8192x128 .bf16) (harg3 : arg3.IsWhole) (arg4 : Memref sig .tc .vmem S1x1x16x80x512 .bf16) (harg4 : arg4.IsWhole) (arg5 : Memref sig .tc .vmem S1x1x16x64x512 .bf16) (harg5 : arg5.IsWhole) (arg6 : Memref sig .tc .vmem S2x4x512x256 .f32) (harg6 : arg6.IsWhole) (v11 v14 v17 v20 : FVec F S128x256 .bf16) (v21 : FVec F S1x256 .f32) (v22 : FVec F S80x256 .f32) (v23 : FVec F S1x256 .f32) (v24 : FVec F S80x256 .f32) (v25 : FVec F S1x256 .f32) (v26 : FVec F S80x256 .f32) (v27 : FVec F S1x256 .f32) (cst_28 : F .f32)
    (X3 : BufTy.Contents (Elt F) arg3.view.ty) (X4 : BufTy.Contents (Elt F) arg4.view.ty) (f : BufTy.Contents (Elt F) arg6.view.ty) (k : Fin k0_t2_loop.trips)
    (hf : Slot0 arg6 f v11 v14 v17 v20 (arg3.view.read (Elt F) X3) (2 * k.val)) :
    (iprop((arg3.view.loc (c : Thread nD τ) ↦[arg3.view.set]{fullShare} X3) ∗ (arg4.view.loc (c : Thread nD τ) ↦[arg4.view.set]{fullShare} X4)
        ∗ (arg6.view.loc (c : Thread nD τ) ↦[arg6.view.set]{fullShare} f)) : sProp 𝕄)
      ⊢ wp frame (wpE (defs₀ (F := F)) Variants.none (c : Thread nD τ) none) Set.univ
          (Gen.k0_t2_body (F := F) i arg2 harg2 arg3 harg3 arg4 harg4 arg5 harg5 arg6 harg6 v11 v14 v17 v20 v21 v22 v23 v24 v25 v26 v27 cst_28 k
            (states v11 v14 v17 v20 (arg3.view.read (Elt F) X3) (arg4.view.read (Elt F) X4) (2 * k.val)))
          (fun yld => iprop((arg3.view.loc (c : Thread nD τ) ↦[arg3.view.set]{fullShare} X3) ∗ (arg4.view.loc (c : Thread nD τ) ↦[arg4.view.set]{fullShare} X4)
            ∗ (∃ f', (arg6.view.loc (c : Thread nD τ) ↦[arg6.view.set]{fullShare} f')
                ∗ ⌜Slot0 arg6 f' v11 v14 v17 v20 (arg3.view.read (Elt F) X3) (2 * (k.val + 1))⌝)
            ∗ ⌜yld = states v11 v14 v17 v20 (arg3.view.read (Elt F) X3) (arg4.view.read (Elt F) X4) (2 * (k.val + 1))⌝)) := by
  have hk : k.val < 7 := Nat.lt_of_lt_of_le k.isLt k0_t2_abs.2.1
  have e3 := readAt_kChunk arg3 X3 (2 * k.val + 1) (by omega) (off := k0_off3 k) (by rw [k0_off3_eq]; congr 2; omega) (k0_off3_inb k)
  have e5 := readAt_kChunk arg3 X3 (2 * k.val + 2) (by omega) (off := k0_off5 k) (by rw [k0_off5_eq]; congr 2; omega) (k0_off5_inb k)
  have e4 := readAt_vChunk arg4 X4 (2 * k.val) (by omega) (off := k0_off4 k) (by rw [k0_off4_eq]) (k0_off4_inb k)
  have e6 := readAt_vChunk arg4 X4 (2 * k.val + 1) (by omega) (off := k0_off6 k) (by rw [k0_off6_eq]) (k0_off6_inb k)
  unfold Gen.k0_t2_body
  iintro ⟨H3, H4, H6⟩
  sl_exec
  sl_step
  isplitl [H3]; · iexact H3
  isplitl [H4]; · iexact H4
  isplitl [H6]
  · iexists _; isplitl [H6]; · iexact H6
    ipureintro
    sl_unfold_run_names
    constructor
    · repeat (first | rw [readAt_slot_eq] | rw [readAt_slot_ne _ _ (by decide)])
      try rw [e5]
      rfl
    · repeat (first | rw [readAt_slot_eq] | rw [readAt_slot_ne _ _ (by decide)])
      try rw [e5]
      rfl
    · repeat (first | rw [readAt_slot_eq] | rw [readAt_slot_ne _ _ (by decide)])
      try rw [e5]
      rfl
    · repeat (first | rw [readAt_slot_eq] | rw [readAt_slot_ne _ _ (by decide)])
      try rw [e5]
      rfl
  ipureintro
  sl_unfold_run_names
  repeat (first | rw [readCov_slot_eq] | rw [readCov_slot_ne _ (by decide)])
  simp only [hf.h0, hf.h1, hf.h2, hf.h3, e3, e4, e6]
  change _ = states v11 v14 v17 v20 (View.read (Elt F) arg3.view X3) (View.read (Elt F) arg4.view X4) (2 * k.val + 1 + 1)
  simp only [states, state_succ]
  refine Prod.ext rfl (Prod.ext ?_ (Prod.ext ?_ (Prod.ext ?_ (Prod.ext ?_ (Prod.ext ?_ (Prod.ext ?_ ?_))))))
  all_goals try rfl

/-- The loop over pairs of chunks, by its invariant. -/
@[sl_loop, instance_reducible] def pairLoop (c : Dev nD) (i : grid0.Coords) (arg2 : Memref sig .tc .vmem S1x1x16x128x512 .bf16) (harg2 : arg2.IsWhole) (arg3 : Memref sig .tc .vmem S1x8192x128 .bf16) (harg3 : arg3.IsWhole) (arg4 : Memref sig .tc .vmem S1x1x16x80x512 .bf16) (harg4 : arg4.IsWhole) (arg5 : Memref sig .tc .vmem S1x1x16x64x512 .bf16) (harg5 : arg5.IsWhole) (arg6 : Memref sig .tc .vmem S2x4x512x256 .f32) (harg6 : arg6.IsWhole) (v11 v14 v17 v20 : FVec F S128x256 .bf16) (v21 : FVec F S1x256 .f32) (v22 : FVec F S80x256 .f32) (v23 : FVec F S1x256 .f32) (v24 : FVec F S80x256 .f32) (v25 : FVec F S1x256 .f32) (v26 : FVec F S80x256 .f32) (v27 : FVec F S1x256 .f32) (cst_28 : F .f32)
    (X3 : BufTy.Contents (Elt F) arg3.view.ty) (X4 : BufTy.Contents (Elt F) arg4.view.ty) (init : FVec F S1x256 .f32 × FVec F S80x256 .f32 × FVec F S1x256 .f32 × FVec F S80x256 .f32 × FVec F S1x256 .f32 × FVec F S80x256 .f32 × FVec F S1x256 .f32 × FVec F S80x256 .f32) :
    Gen.LoopInvTy_k0_t2 (F := F) Unit ℕ (UR sig nD τ) ℕ Variants.none c none Set.univ i arg2 harg2 arg3 harg3 arg4 harg4 arg5 harg5 arg6 harg6 v11 v14 v17 v20 v21 v22 v23 v24 v25 v26 v27 cst_28 init where
  inv k acc := iprop((arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f)
        ∗ ⌜Slot0 arg6 f v11 v14 v17 v20 (arg3.view.read (Elt F) X3) (2 * k)⌝)
    ∗ ⌜acc = states v11 v14 v17 v20 (arg3.view.read (Elt F) X3) (arg4.view.read (Elt F) X4) (2 * k)⌝)
  step k acc := by
    iintro ⟨H3, H4, ⟨%f, H6, %hf⟩, %hacc⟩
    subst hacc
    iapply (inner_trip (F := F) c i arg2 harg2 arg3 harg3 arg4 harg4 arg5 harg5 arg6 harg6 v11 v14 v17 v20 v21 v22 v23 v24 v25 v26 v27 cst_28 X3 X4 f k hf)
    isplitl [H3]; · iexact H3
    isplitl [H4]; · iexact H4
    iexact H6

end Cert.Proof.KI

end
-- ==== Proof.KI.Tiles.lean ====
/-
  What one trip of the loop over pairs of query chunks stores, and what it leaves of the output block.
-/
module

public import proofs.«01_k».proof.Proof.KI.Inner

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The tile of queries of chunk `n` at lane offset `o`, as a matrix. -/
abbrev qMat (X : Vec F S1x1x16x128x512 .bf16) (n o : ℕ) : FVec F S128x256 .bf16 := Gen.k0_pay40 (qTile X n o)

/-- What one grid point writes: every query's output, tile by tile. -/
def outBlk (Q : Vec F S1x1x16x128x512 .bf16) (K : Vec F S1x8192x128 .bf16) (W : Vec F S1x1x16x80x512 .bf16) : Vec F S1x1x16x64x512 .bf16 :=
  fun y => outTile (qMat Q (y 2).val (256 * ((y 4).val / 256))) K W
    (ix5 (n0 := 1) (n1 := 1) (n2 := 1) (n3 := 64) (n4 := 256) (y 0) (y 1) 0 (y 3) ⟨(y 4).val % 256, Nat.mod_lt _ (by decide)⟩)

/-- The chunks of queries before `n` hold their outputs. -/
def Done (M : Memref sig .tc .vmem S1x1x16x64x512 .bf16) (f : M.view.ty.Contents (Elt F)) (Q : Vec F S1x1x16x128x512 .bf16)
    (K : Vec F S1x8192x128 .bf16) (W : Vec F S1x1x16x80x512 .bf16) (n : ℕ) : Prop :=
  ∀ y : S1x1x16x64x512.Idx, (y 2).val < n → M.view.read (Elt F) f y = outBlk Q K W y

/-- The scores of the first chunk of keys, stored slot by slot, fill the first half of the buffer. -/
theorem slot_init (arg3 : Memref sig .tc .vmem S1x8192x128 .bf16) (arg6 : Memref sig .tc .vmem S2x4x512x256 .f32)
    (X3 : BufTy.Contents (Elt F) arg3.view.ty) (f6 : BufTy.Contents (Elt F) arg6.view.ty) (v11 v14 v17 v20 : FVec F S128x256 .bf16) :
    Slot0 arg6 (arg6.view.writes (Elt F) f6
      [⟨slot 0 3 inb_S2x4x512x256_S1x1x512x256_0_3_0_0, k0_pay56 v20 (View.readAt (Elt F) arg3.view (Rect.unit (s := S1x8192x128) ![0, 0, 0] S1x512x128.size inb_S1x8192x128_S1x512x128_0_0_0).toLoadRect X3)⟩,
       ⟨slot 0 2 inb_S2x4x512x256_S1x1x512x256_0_2_0_0, k0_pay55 v17 (View.readAt (Elt F) arg3.view (Rect.unit (s := S1x8192x128) ![0, 0, 0] S1x512x128.size inb_S1x8192x128_S1x512x128_0_0_0).toLoadRect X3)⟩,
       ⟨slot 0 1 inb_S2x4x512x256_S1x1x512x256_0_1_0_0, k0_pay54 v14 (View.readAt (Elt F) arg3.view (Rect.unit (s := S1x8192x128) ![0, 0, 0] S1x512x128.size inb_S1x8192x128_S1x512x128_0_0_0).toLoadRect X3)⟩,
       ⟨slot 0 0 inb_S2x4x512x256_S1x1x512x256_0_0_0_0, k0_pay53 v11 (View.readAt (Elt F) arg3.view (Rect.unit (s := S1x8192x128) ![0, 0, 0] S1x512x128.size inb_S1x8192x128_S1x512x128_0_0_0).toLoadRect X3)⟩])
      v11 v14 v17 v20 (arg3.view.read (Elt F) X3) (2 * 0) := by
  rw [readAt_kChunk arg3 X3 0 (by decide) (off := ![0, 0, 0]) rfl]
  constructor
  · rw [readAt_slot_ne _ _ (by decide), readAt_slot_ne _ _ (by decide), readAt_slot_ne _ _ (by decide), readAt_slot_eq]
    rfl
  · rw [readAt_slot_ne _ _ (by decide), readAt_slot_ne _ _ (by decide), readAt_slot_eq]
    rfl
  · rw [readAt_slot_ne _ _ (by decide), readAt_slot_eq]
    rfl
  · rw [readAt_slot_eq]
    rfl

/-- A store of one tile's output at chunk `n`, lane offset `o`, keeps every agreement and adds that tile. -/
theorem read_store_tile (M : Memref sig .tc .vmem S1x1x16x64x512 .bf16) (f : M.view.ty.Contents (Elt F)) (Q : Vec F S1x1x16x128x512 .bf16)
    (K : Vec F S1x8192x128 .bf16) (W : Vec F S1x1x16x80x512 .bf16) (n o : ℕ) (ho : o = 0 ∨ o = 256)
    {off : Fin 5 → ℕ} (h : off = ![0, 0, n, 0, o]) (inb : ∀ a, off a + S1x1x1x64x256.size a ≤ S1x1x16x64x512.size a)
    (w : Vec F S1x1x1x64x256 .bf16) (hw : w = outTile (qMat Q n o) K W) (L : List (View.Piece (Elt F) S1x1x16x64x512 .bf16))
    (y : S1x1x16x64x512.Idx) (hy : ¬ ((y 2).val = n ∧ o ≤ (y 4).val ∧ (y 4).val < o + 256) → M.view.read (Elt F) (M.view.writes (Elt F) f L) y = outBlk Q K W y) :
    M.view.read (Elt F) (M.view.writes (Elt F) f ((⟨Rect.unit (s := S1x1x16x64x512) off S1x1x1x64x256.size inb, w⟩ : View.Piece (Elt F) S1x1x16x64x512 .bf16) :: L)) y
      = outBlk Q K W y := by
  have h0 : (y 0).val < 1 := (y 0).isLt
  have h1 : (y 1).val < 1 := (y 1).isLt
  have h3 : (y 3).val < 64 := (y 3).isLt
  have h4 : (y 4).val < 512 := (y 4).isLt
  by_cases hm : (y 2).val = n ∧ o ≤ (y 4).val ∧ (y 4).val < o + 256
  · obtain ⟨rfl, hm1, hm2⟩ := hm
    have hx : ∀ a, (y a).val = (![0, 0, (y 2).val, 0, o] : Fin 5 → ℕ) a
        + ((ix5 (n0 := 1) (n1 := 1) (n2 := 1) (n3 := 64) (n4 := 256) (y 0) (y 1) 0 (y 3) ⟨(y 4).val % 256, Nat.mod_lt _ (by decide)⟩ : S1x1x1x64x256.Idx) a).val := by
      intro a
      match a with
      | ⟨0, _⟩ => show (y 0).val = 0 + (y 0).val; omega
      | ⟨1, _⟩ => show (y 1).val = 0 + (y 1).val; omega
      | ⟨2, _⟩ => show (y 2).val = (y 2).val + 0; omega
      | ⟨3, _⟩ => show (y 3).val = 0 + (y 3).val; omega
      | ⟨4, _⟩ => show (y 4).val = o + (y 4).val % 256; omega
    refine (View.read_writes_cons_unit_of_mem M.view f inb w L y _ h hx).trans ?_
    subst hw
    have e : 256 * ((y 4).val / 256) = o := by omega
    show _ = outTile (qMat Q (y 2).val (256 * ((y 4).val / 256))) K W _
    rw [e]
  · have hn : ∃ a : Fin 5, (y a).val < (![0, 0, n, 0, o] : Fin 5 → ℕ) a ∨ (![0, 0, n, 0, o] : Fin 5 → ℕ) a + S1x1x1x64x256.size a ≤ (y a).val := by
      by_cases h2 : (y 2).val = n
      · refine ⟨4, ?_⟩
        show (y 4).val < o ∨ o + 256 ≤ (y 4).val
        omega
      · refine ⟨2, ?_⟩
        show (y 2).val < n ∨ n + 1 ≤ (y 2).val
        omega
    obtain ⟨a, ha⟩ := hn
    exact (View.read_writes_cons_unit_of_not_mem M.view f inb w L y h a ha).trans (hy hm)

/-- The four stores of one trip extend the finished chunks by two. -/
theorem done_step (M : Memref sig .tc .vmem S1x1x16x64x512 .bf16) (f : M.view.ty.Contents (Elt F)) (Q : Vec F S1x1x16x128x512 .bf16)
    (K : Vec F S1x8192x128 .bf16) (W : Vec F S1x1x16x80x512 .bf16) (k : Fin k0_t1_loop.trips) (h5 : Done M f Q K W (2 * k.val))
    (w0 w1 w2 w3 : Vec F S1x1x1x64x256 .bf16) (e0 : w0 = outTile (qMat Q (2 * k.val) 0) K W) (e1 : w1 = outTile (qMat Q (2 * k.val) 256) K W)
    (e2 : w2 = outTile (qMat Q (2 * k.val + 1) 0) K W) (e3 : w3 = outTile (qMat Q (2 * k.val + 1) 256) K W) :
    Done M (M.view.writes (Elt F) f
      [⟨Rect.unit (s := S1x1x16x64x512) (k0_off8 k 1#32) S1x1x1x64x256.size (k0_off8_inb k 1), w3⟩,
       ⟨Rect.unit (s := S1x1x16x64x512) (k0_off7 k 1#32) S1x1x1x64x256.size (k0_off7_inb k 1), w2⟩,
       ⟨Rect.unit (s := S1x1x16x64x512) (k0_off8 k 0#32) S1x1x1x64x256.size (k0_off8_inb k 0), w1⟩,
       ⟨Rect.unit (s := S1x1x16x64x512) (k0_off7 k 0#32) S1x1x1x64x256.size (k0_off7_inb k 0), w0⟩]) Q K W (2 * (k.val + 1)) := by
  intro y hy
  have h4 : (y 4).val < 512 := (y 4).isLt
  refine read_store_tile M f Q K W (2 * k.val + 1) 256 (Or.inr rfl) (k0_off8_eq k 1) _ w3 e3 _ y fun a3 => ?_
  refine read_store_tile M f Q K W (2 * k.val + 1) 0 (Or.inl rfl) (k0_off7_eq k 1) _ w2 e2 _ y fun a2 => ?_
  refine read_store_tile M f Q K W (2 * k.val) 256 (Or.inr rfl) (k0_off8_eq k 0) _ w1 e1 _ y fun a1 => ?_
  refine read_store_tile M f Q K W (2 * k.val) 0 (Or.inl rfl) (k0_off7_eq k 0) _ w0 e0 _ y fun a0 => ?_
  exact h5 y (by omega)

end Cert.Proof.KI

end
-- ==== Proof.KI.Outer.lean ====
/-
  The loop over pairs of query chunks: each trip computes the four query tiles of two chunks and stores their outputs.
-/
module

public import proofs.«01_k».proof.Proof.KI.Tiles

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- One trip: the outputs of two more chunks of queries. -/
theorem outer_trip (c : Dev nD) (i : grid0.Coords) (arg2 : Memref sig .tc .vmem S1x1x16x128x512 .bf16) (harg2 : arg2.IsWhole) (arg3 : Memref sig .tc .vmem S1x8192x128 .bf16) (harg3 : arg3.IsWhole) (arg4 : Memref sig .tc .vmem S1x1x16x80x512 .bf16) (harg4 : arg4.IsWhole) (arg5 : Memref sig .tc .vmem S1x1x16x64x512 .bf16) (harg5 : arg5.IsWhole) (arg6 : Memref sig .tc .vmem S2x4x512x256 .f32) (harg6 : arg6.IsWhole)
    (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) (k : Fin k0_t1_loop.trips)
    (h5 : Done arg5 f5 (arg2.view.read (Elt F) X2) (arg3.view.read (Elt F) X3) (arg4.view.read (Elt F) X4) (2 * k.val)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} f5) ∗ (arg6.view.loc (c : Thread nD τ) ↦[arg6.view.set]{fullShare} f6)) : sProp 𝕄)
      ⊢ wp frame (wpE (defs₀ (F := F)) Variants.none (c : Thread nD τ) none) Set.univ
          (Gen.k0_t1_body (F := F) i arg2 harg2 arg3 harg3 arg4 harg4 arg5 harg5 arg6 harg6 k ())
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (∃ f', (arg5.view.loc (c : Thread nD τ) ↦[arg5.view.set]{fullShare} f')
                ∗ ⌜Done arg5 f' (arg2.view.read (Elt F) X2) (arg3.view.read (Elt F) X3) (arg4.view.read (Elt F) X4) (2 * (k.val + 1))⌝)
            ∗ (∃ f', (arg6.view.loc (c : Thread nD τ) ↦[arg6.view.set]{fullShare} f')))) := by
  have hk : k.val < 8 := Nat.lt_of_lt_of_le k.isLt k0_t1_abs.2.1
  unfold Gen.k0_t1_body
  iintro ⟨H2, H3, H4, H5, H6⟩
  have hs := slot_init arg3 arg6 X3 f6
    (k0_pay40 (View.readAt (Elt F) arg2.view (Rect.unit (s := S1x1x16x128x512) (k0_off1 k 0#32) S1x1x1x128x256.size (k0_off1_inb k 0)).toLoadRect X2))
    (k0_pay41 (View.readAt (Elt F) arg2.view (Rect.unit (s := S1x1x16x128x512) (k0_off2 k 0#32) S1x1x1x128x256.size (k0_off2_inb k 0)).toLoadRect X2))
    (k0_pay42 (View.readAt (Elt F) arg2.view (Rect.unit (s := S1x1x16x128x512) (k0_off1 k 1#32) S1x1x1x128x256.size (k0_off1_inb k 1)).toLoadRect X2))
    (k0_pay43 (View.readAt (Elt F) arg2.view (Rect.unit (s := S1x1x16x128x512) (k0_off2 k 1#32) S1x1x1x128x256.size (k0_off2_inb k 1)).toLoadRect X2))
  sl_exec
  sl_step
  isplitl [H2]; · iexact H2
  isplitl [H3]; · iexact H3
  isplitl [H4]; · iexact H4
  isplitl [H5]
  · iexists _; isplitl [H5]; · iexact H5
    ipureintro
    have eq0 : View.readAt (Elt F) arg2.view (Rect.unit (s := S1x1x16x128x512) (k0_off1 k 0#32) S1x1x1x128x256.size (k0_off1_inb k 0)).toLoadRect X2
        = qTile (arg2.view.read (Elt F) X2) (2 * k.val) 0 := readAt_qTile arg2 X2 (2 * k.val) 0 (by omega) (by decide) (k0_off1_eq k 0) (k0_off1_inb k 0)
    have eq1 : View.readAt (Elt F) arg2.view (Rect.unit (s := S1x1x16x128x512) (k0_off2 k 0#32) S1x1x1x128x256.size (k0_off2_inb k 0)).toLoadRect X2
        = qTile (arg2.view.read (Elt F) X2) (2 * k.val) 256 := readAt_qTile arg2 X2 (2 * k.val) 256 (by omega) (by decide) (k0_off2_eq k 0) (k0_off2_inb k 0)
    have eq2 : View.readAt (Elt F) arg2.view (Rect.unit (s := S1x1x16x128x512) (k0_off1 k 1#32) S1x1x1x128x256.size (k0_off1_inb k 1)).toLoadRect X2
        = qTile (arg2.view.read (Elt F) X2) (2 * k.val + 1) 0 := readAt_qTile arg2 X2 (2 * k.val + 1) 0 (by omega) (by decide) (k0_off1_eq k 1) (k0_off1_inb k 1)
    have eq3 : View.readAt (Elt F) arg2.view (Rect.unit (s := S1x1x16x128x512) (k0_off2 k 1#32) S1x1x1x128x256.size (k0_off2_inb k 1)).toLoadRect X2
        = qTile (arg2.view.read (Elt F) X2) (2 * k.val + 1) 256 := readAt_qTile arg2 X2 (2 * k.val + 1) 256 (by omega) (by decide) (k0_off2_eq k 1) (k0_off2_inb k 1)
    have ek := readAt_kChunk arg3 X3 15 (by decide) (off := ![0, 7680, 0]) rfl inb_S1x8192x128_S1x512x128_0_7680_0
    have ev := readAt_vChunk arg4 X4 14 (by decide) (off := ![0, 0, 14, 0, 0]) rfl inb_S1x1x16x80x512_S1x1x1x80x512_0_0_14_0_0
    have ev' := readAt_vChunk arg4 X4 15 (by decide) (off := ![0, 0, 15, 0, 0]) rfl inb_S1x1x16x80x512_S1x1x1x80x512_0_0_15_0_0
    have ht : 2 * Scf.trips k0_t2_loop.lb k0_t2_loop.ub k0_t2_loop.st = 14 := by decide
    rw [ht] at hL3
    refine done_step arg5 f5 _ _ _ k h5 _ _ _ _ ?_ ?_ ?_ ?_
    · sl_unfold_run_names
      repeat (first | rw [readCov_slot_eq] | rw [readCov_slot_ne _ (by decide)])
      simp only [hL3.h0, ht, ev, ev', ek]
      sl_unfold_run_names
      simp only [eq0]
      rw [outTile, state_succ _ _ _ 15, state_succ _ _ _ 14]
      rfl
    · sl_unfold_run_names
      repeat (first | rw [readCov_slot_eq] | rw [readCov_slot_ne _ (by decide)])
      simp only [hL3.h1, ht, ev, ev', ek]
      sl_unfold_run_names
      simp only [eq1]
      rw [outTile, state_succ _ _ _ 15, state_succ _ _ _ 14]
      rfl
    · sl_unfold_run_names
      repeat (first | rw [readCov_slot_eq] | rw [readCov_slot_ne _ (by decide)])
      simp only [hL3.h2, ht, ev, ev', ek]
      sl_unfold_run_names
      simp only [eq2]
      rw [outTile, state_succ _ _ _ 15, state_succ _ _ _ 14]
      rfl
    · sl_unfold_run_names
      repeat (first | rw [readCov_slot_eq] | rw [readCov_slot_ne _ (by decide)])
      simp only [hL3.h3, ht, ev, ev', ek]
      sl_unfold_run_names
      simp only [eq3]
      rw [outTile, state_succ _ _ _ 15, state_succ _ _ _ 14]
      rfl
  iexists _; iexact H6

/-- The loop over pairs of query chunks, by its invariant: before trip `k` the first `2 k` chunks hold their outputs. -/
@[sl_loop, instance_reducible] def queryLoop (c : Dev nD) (i : grid0.Coords) (arg2 : Memref sig .tc .vmem S1x1x16x128x512 .bf16) (harg2 : arg2.IsWhole) (arg3 : Memref sig .tc .vmem S1x8192x128 .bf16) (harg3 : arg3.IsWhole) (arg4 : Memref sig .tc .vmem S1x1x16x80x512 .bf16) (harg4 : arg4.IsWhole) (arg5 : Memref sig .tc .vmem S1x1x16x64x512 .bf16) (harg5 : arg5.IsWhole) (arg6 : Memref sig .tc .vmem S2x4x512x256 .f32) (harg6 : arg6.IsWhole)
    (X2 : BufTy.Contents (Elt F) arg2.view.ty) (X3 : BufTy.Contents (Elt F) arg3.view.ty) (X4 : BufTy.Contents (Elt F) arg4.view.ty) :
    Gen.LoopInvTy_k0_t1 (F := F) Unit ℕ (UR sig nD τ) ℕ Variants.none c none Set.univ i arg2 harg2 arg3 harg3 arg4 harg4 arg5 harg5 arg6 harg6 where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f)
        ∗ ⌜Done arg5 f (arg2.view.read (Elt F) X2) (arg3.view.read (Elt F) X3) (arg4.view.read (Elt F) X4) (2 * k)⌝)
    ∗ (∃ f, (arg6.view.loc (c : Thread nD τ) ↦[arg6.view.set]{fullShare} f)))
  step k acc := by
    iintro ⟨H2, H3, H4, ⟨%f5, H5, %h5⟩, ⟨%f6, H6⟩⟩
    iapply (outer_trip (F := F) c i arg2 harg2 arg3 harg3 arg4 harg4 arg5 harg5 arg6 harg6 X2 X3 X4 f5 f6 k h5)
    isplitl [H2]; · iexact H2
    isplitl [H3]; · iexact H3
    isplitl [H4]; · iexact H4
    isplitl [H5]; · iexact H5
    iexact H6

end Cert.Proof.KI

end
-- ==== Proof.KI.Body.lean ====
/-
  The kernel at one grid point, and the run of the whole program: every output block holds the attention of its queries.
-/
module

public import proofs.«01_k».proof.Proof.KI.Outer
public import proofs.«01_k».proof.Proof.Gen.KernelIdeal.Frame

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- When every chunk of queries is finished the output memref holds the whole block. -/
theorem read_of_done (M : Memref sig .tc .vmem S1x1x16x64x512 .bf16) (f : M.view.ty.Contents (Elt F)) (Q : Vec F S1x1x16x128x512 .bf16)
    (K : Vec F S1x8192x128 .bf16) (W : Vec F S1x1x16x80x512 .bf16) (n : ℕ) (hn : n = 16) (h : Done M f Q K W n) : M.view.read (Elt F) f = outBlk Q K W :=
  funext fun y => h y (by subst hn; exact (y 2).isLt)

set_option maxHeartbeats 4000000 in
/-- The kernel's call at one grid point: from the staged queries, keys and values to the output block. -/
theorem sound_kernel (c : Dev nD) (E : Set ℕ) (hE : E = Set.univ) (i : grid0.Coords) (arg2 : Memref sig .tc .vmem S1x1x16x128x512 .bf16) (harg2 : arg2.IsWhole) (arg3 : Memref sig .tc .vmem S1x8192x128 .bf16) (harg3 : arg3.IsWhole) (arg4 : Memref sig .tc .vmem S1x1x16x80x512 .bf16) (harg4 : arg4.IsWhole) (arg5 : Memref sig .tc .vmem S1x1x16x64x512 .bf16) (harg5 : arg5.IsWhole) (arg6 : Memref sig .tc .vmem S2x4x512x256 .f32) (harg6 : arg6.IsWhole)
    (Q : Vec F S1x1x16x128x512 .bf16) (K : Vec F S1x8192x128 .bf16) (W : Vec F S1x1x16x80x512 .bf16) (P : PUnit → sProp 𝕄) :
    iprop(owns (c : Thread nD τ) arg2 fullShare Q ∗ owns (c : Thread nD τ) arg3 fullShare K ∗ owns (c : Thread nD τ) arg4 fullShare W
        ∗ (∃ d, owns (c : Thread nD τ) arg5 fullShare d) ∗ (∃ d, owns (c : Thread nD τ) arg6 fullShare d)
        ∗ (iprop(owns (c : Thread nD τ) arg2 fullShare Q ∗ owns (c : Thread nD τ) arg3 fullShare K ∗ owns (c : Thread nD τ) arg4 fullShare W
            ∗ owns (c : Thread nD τ) arg5 fullShare (outBlk Q K W) ∗ (∃ d, owns (c : Thread nD τ) arg6 fullShare d)) -∗ P ⟨⟩))
      ⊢ wp frame (wpE (defs₀ (F := F)) Variants.none (c : Thread nD τ) none) E
          (cc0_mla_attn i arg2 harg2 arg3 harg3 arg4 harg4 arg5 harg5 arg6 harg6) P := by
  subst hE
  simp only [cc0_mla_attn_eq_skeleton]; unfold cc0_mla_attn_skel
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2 hf3 hf4
  have h0 : Done arg5 f5 (arg2.view.read (Elt F) f2) (arg3.view.read (Elt F) f3) (arg4.view.read (Elt F) f4) (2 * 0) :=
    fun y hy => absurd hy (Nat.not_lt_zero _)
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    · ipureintro
      exact read_of_done arg5 _ _ _ _ (2 * Scf.trips k0_t1_loop.lb k0_t1_loop.ub k0_t1_loop.st) (by decide +kernel) hL4
    iexact H5
  iexists (arg6.view.read (Elt F) fL1); iexists fL1; isplitr; · ipureintro; rfl
  iexact H6

variable (m : (ℓ : Loc nD τ sig) → Buf (Elt F) ℓ) (ρ : Dev nD → PrngReg)

/-- What the windows hold: the inputs their blocks, the output the attention of the blocks of its grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

/-- The windows' arrays hold what the program was launched with. -/
theorem A_eq (c : Dev nD) (w : Fin cfg0.W) : (dats (F := F) m 0 c).A w = V m c (Pipeline.arrRef spec0 w) := rfl
/-- The body leaves the queries' block in place. -/
theorem after0_0 (c : Dev nD) (t : Fin cfg0.N) : (dats (F := F) m 0 c).after 0 t = iblk m c 0 t := by dsimp only [dats]
/-- The body leaves the keys' block in place. -/
theorem after0_1 (c : Dev nD) (t : Fin cfg0.N) : (dats (F := F) m 0 c).after 1 t = iblk m c 1 t := by dsimp only [dats]
/-- The body leaves the values' block in place. -/
theorem after0_2 (c : Dev nD) (t : Fin cfg0.N) : (dats (F := F) m 0 c).after 2 t = iblk m c 2 t := by dsimp only [dats]
/-- The body leaves the output block of the three staged blocks. -/
theorem after0_3 (c : Dev nD) (t : Fin cfg0.N) : (dats (F := F) m 0 c).after 3 t = outBlk (iblk m c 0 t) (iblk m c 1 t) (iblk m c 2 t) := by dsimp only [dats]
/-- The body finds the queries' block. -/
theorem before0_0 (c : Dev nD) (t : Fin cfg0.N) (d) : (dats (F := F) m 0 c).before 0 t d = iblk m c 0 t :=
  before0_0_of m (dats m 0 c) (A_eq m c 0) (after0_0 m c) t d
/-- The body finds the keys' block. -/
theorem before0_1 (c : Dev nD) (t : Fin cfg0.N) (d) : (dats (F := F) m 0 c).before 1 t d = iblk m c 1 t :=
  before0_1_of m (dats m 0 c) (A_eq m c 1) (after0_1 m c) t d
/-- The body finds the values' block. -/
theorem before0_2 (c : Dev nD) (t : Fin cfg0.N) (d) : (dats (F := F) m 0 c).before 2 t d = iblk m c 2 t :=
  before0_2_of m (dats m 0 c) (A_eq m c 2) (after0_2 m c) t d

/-- The resources before the body at a grid point. -/
abbrev bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- The resources after the body at a grid point. -/
abbrev bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at every grid point. -/
theorem sound_body (c : Dev nD) (t : Fin cfg0.N) :
    bodyPre (F := F) m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3]
  unfold Pipeline.ΦA
  rw [scopedRest0_eq]
  simp only [← owns_whole]
  iintro ⟨⟨HS, HP⟩, Ho, ⟨%d0, H0⟩, ⟨%d1, H1⟩, ⟨%d2, H2⟩, ⟨%d3, H3⟩⟩
  iapply (sound_kernel c Set.univ rfl (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HP]
  · isplitl [HS]; · iexact HS
    iexact HP
  isplitl [Ho]; · iexact Ho
  isplitl [H0]; · iexact H0
  isplitl [H1]; · iexact H1
  isplitl [H2]; · iexact H2
  iexact H3

/-- The body meets the pipeline's obligation. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The whole program runs, every window's array ending at its final contents and every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

end Cert.Proof.KI

end
-- ==== Proof.KI.Final.lean ====
/-
  The result array after the run: for every batch row and head, the attention of that row's and head's blocks.
-/
module

public import proofs.«01_k».proof.Proof.KI.Body
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The queries of batch row `b` and head `h`. -/
def qBlk (Q : Vec F S4x8x16x128x512 .bf16) (b : Fin 4) (h : Fin 8) : Vec F S1x1x16x128x512 .bf16 :=
  fun j => Q (ix5 (n0 := 4) (n1 := 8) (n2 := 16) (n3 := 128) (n4 := 512) b h (j 2) (j 3) (j 4))

/-- The keys of batch row `b` and head `h`. -/
def kBlk (K : Vec F S4x8192x1024 .bf16) (b : Fin 4) (h : Fin 8) : Vec F S1x8192x128 .bf16 :=
  fun j => K (ix3 (n0 := 4) (n1 := 8192) (n2 := 1024) b (j 1) ⟨h.val * 128 + (j 2).val, by have := (j 2).isLt; have : (j 2).val < 128 := (j 2).isLt; omega⟩)

/-- The values of batch row `b` and head `h`. -/
def wBlk (W : Vec F S4x8x16x80x512 .bf16) (b : Fin 4) (h : Fin 8) : Vec F S1x1x16x80x512 .bf16 :=
  fun j => W (ix5 (n0 := 4) (n1 := 8) (n2 := 16) (n3 := 80) (n4 := 512) b h (j 2) (j 3) (j 4))

/-- The whole result: for every batch row and head, the output block of that row's and head's blocks. -/
def outArr (Q : Vec F S4x8x16x128x512 .bf16) (K : Vec F S4x8192x1024 .bf16) (W : Vec F S4x8x16x80x512 .bf16) : Vec F S4x8x16x64x512 .bf16 :=
  fun y => outBlk (qBlk Q (y 0) (y 1)) (kBlk K (y 0) (y 1)) (wBlk W (y 0) (y 1))
    (ix5 (n0 := 1) (n1 := 1) (n2 := 16) (n3 := 64) (n4 := 512) 0 0 (y 2) (y 3) (y 4))

/-- The block of the queries at a grid point. -/
theorem idx0_0 : ∀ t : Fin cfg0.N, win0_0.index t = ![(grid0.coords t 0).val, (grid0.coords t 1).val, 0, 0, 0] :=
  (by decide +kernel : ∀ t : Fin grid0.N, win0_0.index t = ![(grid0.coords t 0).val, (grid0.coords t 1).val, 0, 0, 0])
/-- The block of the keys at a grid point. -/
theorem idx0_1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
/-- The block of the values at a grid point. -/
theorem idx0_2 : ∀ t : Fin cfg0.N, win0_2.index t = ![(grid0.coords t 0).val, (grid0.coords t 1).val, 0, 0, 0] :=
  (by decide +kernel : ∀ t : Fin grid0.N, win0_2.index t = ![(grid0.coords t 0).val, (grid0.coords t 1).val, 0, 0, 0])
/-- The block of the result at a grid point. -/
theorem idx0_3 : ∀ t : Fin cfg0.N, win0_3.index t = ![(grid0.coords t 0).val, (grid0.coords t 1).val, 0, 0, 0] :=
  (by decide +kernel : ∀ t : Fin grid0.N, win0_3.index t = ![(grid0.coords t 0).val, (grid0.coords t 1).val, 0, 0, 0])

variable (m : (ℓ : Loc nD τ sig) → Buf (Elt F) ℓ) (ρ : Dev nD → PrngReg)

/-- The staged queries are their batch row's and head's. -/
theorem iblk0 (c : Dev nD) (t : Fin cfg0.N) :
    iblk m c 0 t = qBlk (m ((c : Thread nD τ).loc main_arg0)) (grid0.coords t 0) (grid0.coords t 1) := by
  funext x
  show V m c main_arg0 ((win0_0.blk t).view.emb x) = m ((c : Thread nD τ).loc main_arg0) _
  refine congrArg (m ((c : Thread nD τ).loc main_arg0)) (funext fun a => Fin.ext ?_)
  have h0 : (x 0).val < 1 := (x 0).isLt
  have h1 : (x 1).val < 1 := (x 1).isLt
  match a with
  | ⟨0, _⟩ => blk_simp [idx0_0]; all_goals rfl
  | ⟨1, _⟩ => blk_simp [idx0_0]; all_goals rfl
  | ⟨2, _⟩ => blk_simp [idx0_0]; all_goals rfl
  | ⟨3, _⟩ => blk_simp [idx0_0]; all_goals rfl
  | ⟨4, _⟩ => blk_simp [idx0_0]; all_goals rfl

/-- The staged keys are their batch row's and head's. -/
theorem iblk1 (c : Dev nD) (t : Fin cfg0.N) :
    iblk m c 1 t = kBlk (m ((c : Thread nD τ).loc main_arg1)) (grid0.coords t 0) (grid0.coords t 1) := by
  funext x
  show V m c main_arg1 ((win0_1.blk t).view.emb x) = m ((c : Thread nD τ).loc main_arg1) _
  refine congrArg (m ((c : Thread nD τ).loc main_arg1)) (funext fun a => Fin.ext ?_)
  have h0 : (x 0).val < 1 := (x 0).isLt
  match a with
  | ⟨0, _⟩ => blk_simp [idx0_1]; all_goals rfl
  | ⟨1, _⟩ => blk_simp [idx0_1]; all_goals rfl
  | ⟨2, _⟩ => blk_simp [idx0_1]; all_goals rfl

/-- The staged values are their batch row's and head's. -/
theorem iblk2 (c : Dev nD) (t : Fin cfg0.N) :
    iblk m c 2 t = wBlk (m ((c : Thread nD τ).loc main_arg2)) (grid0.coords t 0) (grid0.coords t 1) := by
  funext x
  show V m c main_arg2 ((win0_2.blk t).view.emb x) = m ((c : Thread nD τ).loc main_arg2) _
  refine congrArg (m ((c : Thread nD τ).loc main_arg2)) (funext fun a => Fin.ext ?_)
  have h0 : (x 0).val < 1 := (x 0).isLt
  have h1 : (x 1).val < 1 := (x 1).isLt
  match a with
  | ⟨0, _⟩ => blk_simp [idx0_2]; all_goals rfl
  | ⟨1, _⟩ => blk_simp [idx0_2]; all_goals rfl
  | ⟨2, _⟩ => blk_simp [idx0_2]; all_goals rfl
  | ⟨3, _⟩ => blk_simp [idx0_2]; all_goals rfl
  | ⟨4, _⟩ => blk_simp [idx0_2]; all_goals rfl

/-- The output block of a grid point, inside the whole result. -/
theorem outArr_at (Q : Vec F S4x8x16x128x512 .bf16) (K : Vec F S4x8192x1024 .bf16) (W : Vec F S4x8x16x80x512 .bf16)
    (y : S1x1x16x64x512.Idx) (z : S4x8x16x64x512.Idx) (b : Fin 4) (h : Fin 8) (e0 : (z 0).val = b.val) (e1 : (z 1).val = h.val)
    (e2 : (z 2).val = (y 2).val) (e3 : (z 3).val = (y 3).val) (e4 : (z 4).val = (y 4).val) :
    outBlk (qBlk Q b h) (kBlk K b h) (wBlk W b h) y = outArr Q K W z := by
  have h0 : (y 0).val < 1 := (y 0).isLt
  have h1 : (y 1).val < 1 := (y 1).isLt
  unfold outArr
  rw [show z 0 = b from Fin.ext e0, show z 1 = h from Fin.ext e1]
  refine congrArg _ (funext fun a => Fin.ext ?_)
  match a with
  | ⟨0, _⟩ => show (y 0).val = 0; omega
  | ⟨1, _⟩ => show (y 1).val = 0; omega
  | ⟨2, _⟩ => exact e2.symm
  | ⟨3, _⟩ => exact e3.symm
  | ⟨4, _⟩ => exact e4.symm

/-- The result array after the run. -/
theorem final_out (c : Dev nD) : (dats m 0 c).arrAt 3 cfg0.N
    = outArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have h0 : (y 0).val < 1 := (y 0).isLt
  have h1 : (y 1).val < 1 := (y 1).isLt
  show (dats m 0 c).after 3 t y = _
  rw [after0_3, iblk0, iblk1, iblk2]
  refine outArr_at _ _ _ y _ _ _ ?_ ?_ ?_ ?_ ?_
  · blk_simp [idx0_3]
  · blk_simp [idx0_3]
  · blk_simp [idx0_3]
  · blk_simp [idx0_3]
  · blk_simp [idx0_3]

/-- The run: the result array is the attention, the arguments end as they began, every counter is back at zero. -/
theorem run_values : θ_run defs (onTc (τ := τ) (main (F := F))) ⟨m, fun _ => 0, ρ⟩ (fun r => (∀ c : Dev nD,
      r.2.mem ((c.tc : Thread nD τ).loc main_v0) = outArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 3).trans (final_out m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.Proof.KI

end
-- ==== Proof.Math.Pre.lean ====
/- The precondition read back: the queries and the keys are finite, and row 64 of the values holds ones. -/
module

public import proofs.«01_k».proof.Proof.Gen.Pre_mla_pre
public import Idealize.ShloMosaic.Lib.Pipeline.ValueKit
public import Idealize.ShloMosaic.Lib.ReduceAll

@[expose] public section

set_option maxRecDepth 16384
noncomputable section

namespace Cert.Proof.Math
open Idealize.ShloMosaic Idealize.ShloMosaic.TcCoe
open Cert.Pre_mla_pre Cert.Pre_mla_pre.Gen

/-- Two conditions and-ed are one only when both are. -/
theorem andi_one {x y : IVec S_ 1} (h : andi x y = fun _ => 1#1) (i : S_.Idx) : x i = 1#1 ∧ y i = 1#1 :=
  IntOp.andi_eq_one.1 (congrFun h i)

/-- A decided proposition whose bit is one holds. -/
theorem of_ofBool {p : Prop} {_ : Decidable p} (h : BitVec.ofBool (decide p) = 1#1) : p := by
  by_cases hp : p
  · exact hp
  · rw [decide_eq_false hp] at h
    exact absurd h (by decide)

/-- An extended real whose absolute value is below the pattern of infinity is a real. -/
theorem real_of_abs_lt {x : EReal} (h : BitVec.ofBool (decide (FloatOps.absf (F := Ideal) (φ := .f32) x < Ideal.ofBits FTy.f32 2139095040#32)) = 1#1) :
    ∃ r : ℝ, x = (r : EReal) := by
  have ht : Ideal.ofBits FTy.f32 2139095040#32 = ⊤ := by simp [Ideal.ofBits, Ideal.ieee]
  rw [ht] at h
  have h' : FloatOps.absf (F := Ideal) (φ := .f32) x < (⊤ : EReal) := of_ofBool h
  have h2 : max x (-x) < (⊤ : EReal) := h'
  obtain ⟨ha, hb⟩ := max_lt_iff.1 h2
  induction x with
  | bot => simp at hb
  | top => simp at ha
  | coe r => exact ⟨r, rfl⟩

/-- What the precondition says. -/
theorem pre_read (Q : FVec Ideal S4x8x16x128x512 .bf16) (K : FVec Ideal S4x8192x1024 .bf16) (W : FVec Ideal S4x8x16x80x512 .bf16)
    (h : fn (F := Ideal) Q K W = fun _ => 1#1) :
    (∀ i, ∃ r : ℝ, Q i = (r : EReal)) ∧ (∀ i, ∃ r : ℝ, K i = (r : EReal))
      ∧ ∀ (b : Fin 4) (g : Fin 8) (n : Fin 16) (x : Fin 512), W (ix5 b g n 64 x) = (1 : EReal) := by
  have hi : S_.Idx := fun a => a.elim0
  obtain ⟨h12, h3⟩ := andi_one h hi
  obtain ⟨h1, h2⟩ := IntOp.andi_eq_one.1 h12
  refine ⟨fun i => ?_, fun i => ?_, fun b g n x => ?_⟩
  · have := Host.reduce_andi_all _ _ _ _ _ h1 i
    pointwise at this
    exact real_of_abs_lt this
  · have := Host.reduce_andi_all _ _ _ _ _ h2 i
    pointwise at this
    exact real_of_abs_lt this
  · have := Host.reduce_andi_all _ _ _ _ _ h3 (ix4 b g n x)
    pointwise at this
    exact of_ofBool this

end Cert.Proof.Math
end
-- ==== Proof.Math.Online.lean ====
/- The online softmax over extended reals: the running maximum and the rescaled sums, one chunk of keys at a time. -/
module

public import Idealize.ShloMosaic.PureOps.Ideal

@[expose] public section

noncomputable section

namespace Cert.Proof.Math
open Idealize.ShloMosaic

/-- A sum of extended reals times a real that is not negative, term by term. -/
theorem sum_mul_coe {ι : Type} (t : Finset ι) (f : ι → EReal) (r : ℝ) (hr : 0 ≤ r) :
    (∑ k ∈ t, f k) * (r : EReal) = ∑ k ∈ t, f k * (r : EReal) := by
  classical
  induction t using Finset.induction_on with
  | empty => simp
  | insert a t ha ih =>
    rw [Finset.sum_insert ha, Finset.sum_insert ha,
      EReal.right_distrib_of_nonneg_of_ne_top (EReal.coe_nonneg.2 hr) (EReal.coe_ne_top r), ih]

/-- A finite sum of reals, read as extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The maximum, from minus infinity, of finitely many reals one of which bounds them all. -/
theorem fold_max_coe {ι : Type} (t : Finset ι) (g : ι → ℝ) (r : ℝ) (hle : ∀ x ∈ t, g x ≤ r) (hex : ∃ x ∈ t, g x = r) :
    Finset.fold max (⊥ : EReal) (fun x => (g x : EReal)) t = (r : EReal) := by
  apply le_antisymm
  · exact Finset.fold_max_le _ |>.2 ⟨bot_le, fun x hx => EReal.coe_le_coe_iff.2 (hle x hx)⟩
  · obtain ⟨x, hx, rfl⟩ := hex
    exact Finset.le_fold_max _ |>.2 (.inr ⟨x, hx, le_rfl⟩)

/-- Two to the power of a difference of scores, in units of `log 2`, is the exponential of the scaled difference. -/
theorem exp2_scaled (x a : ℝ) :
    Ideal.exp2 ((x : EReal) * ((a * (Real.log 2)⁻¹ : ℝ) : EReal)) = (Real.exp (x * a) : EReal) := by
  rw [← EReal.coe_mul, Ideal.exp2_coe]
  congr 1
  show (2 : ℝ) ^ (x * (a * (Real.log 2)⁻¹)) = _
  rw [Real.rpow_def_of_pos two_pos]
  congr 1
  have h : Real.log 2 ≠ 0 := (Real.log_pos one_lt_two).ne'
  field_simp

/-- The weight of key `k` when the running maximum is `m`. -/
def wt (s : ℕ → ℝ) (a m : ℝ) (k : ℕ) : ℝ := Real.exp ((s k - m) * a)

/-- After the first `N` keys: `M` is their largest score, and `A` the sum of the values weighted relative to it. -/
def Seen (s : ℕ → ℝ) (a : ℝ) (V : ℕ → EReal) (N : ℕ) (M A : EReal) : Prop :=
  ∃ m : ℝ, M = (m : EReal) ∧ (∀ k < N, s k ≤ m) ∧ (∃ k < N, s k = m) ∧ A = ∑ k ∈ Finset.range N, V k * (wt s a m k : EReal)

/-- Every finite family of reals over a chunk of keys has a largest one. -/
theorem chunk_max (s : ℕ → ℝ) (N : ℕ) :
    ∃ r : ℝ, (∀ x : Fin 512, s (N + x.val) ≤ r) ∧ ∃ x : Fin 512, s (N + x.val) = r := by
  obtain ⟨x, -, hx⟩ := Finset.exists_max_image (Finset.univ : Finset (Fin 512)) (fun x => s (N + x.val)) ⟨0, Finset.mem_univ _⟩
  exact ⟨_, fun y => hx y (Finset.mem_univ _), x, rfl⟩

/-- One more chunk of 512 keys keeps the invariant: the sums so far are rescaled to the new maximum. -/
theorem Seen.step {s : ℕ → ℝ} {a : ℝ} {V : ℕ → EReal} {N : ℕ} {M A : EReal}
    (h : (N = 0 ∧ M = ⊥ ∧ A = 0) ∨ Seen s a V N M A) {M' A' : EReal}
    (hM : M' = max M (Finset.fold max (⊥ : EReal) (fun x : Fin 512 => (s (N + x.val) : EReal)) Finset.univ))
    (hA : A' = A * Ideal.exp2 ((M - M') * ((a * (Real.log 2)⁻¹ : ℝ) : EReal))
      + ∑ x : Fin 512, V (N + x.val) * Ideal.exp2 (((s (N + x.val) : EReal) - M') * ((a * (Real.log 2)⁻¹ : ℝ) : EReal)))
    : Seen s a V (N + 512) M' A' := by
  obtain ⟨r, hr, x0, hx0⟩ := chunk_max s N
  rw [fold_max_coe Finset.univ (fun x : Fin 512 => s (N + x.val)) r (fun x _ => hr x) ⟨x0, Finset.mem_univ _, hx0⟩] at hM
  have key : ∀ m' : ℝ, M' = (m' : EReal) → ∑ x : Fin 512, V (N + x.val) * Ideal.exp2 (((s (N + x.val) : EReal) - M') * ((a * (Real.log 2)⁻¹ : ℝ) : EReal))
      = ∑ x ∈ Finset.range 512, V (N + x) * (wt s a m' (N + x) : EReal) := by
    intro m' e
    rw [Finset.sum_range]
    refine Finset.sum_congr rfl fun x _ => ?_
    rw [e, ← EReal.coe_sub, exp2_scaled]
    rfl
  rcases h with ⟨rfl, rfl, rfl⟩ | ⟨m, rfl, hle, ⟨k0, hk0, hk0'⟩, rfl⟩
  · have e : M' = (r : EReal) := by rw [hM]; exact max_eq_right bot_le
    refine ⟨r, e, fun k hk => ?_, ⟨0 + x0.val, by have := x0.isLt; omega, hx0⟩, ?_⟩
    · simpa using hr ⟨k, by omega⟩
    · rw [hA, key r e, zero_mul, zero_add]
      simp only [Nat.zero_add]
  · have e : M' = ((max m r : ℝ) : EReal) := by rw [hM]; exact (EReal.coe_strictMono.monotone.map_max).symm
    refine ⟨max m r, e, fun k hk => ?_, ?_, ?_⟩
    · by_cases hk' : k < N
      · exact (hle k hk').trans (le_max_left _ _)
      · have := hr ⟨k - N, by omega⟩
        rw [show N + (k - N) = k by omega] at this
        exact this.trans (le_max_right _ _)
    · rcases le_total m r with h | h
      · exact ⟨N + x0.val, by have := x0.isLt; omega, by rw [max_eq_right h]; exact hx0⟩
      · exact ⟨k0, by omega, by rw [max_eq_left h]; exact hk0'⟩
    · rw [hA, key _ e, e, ← EReal.coe_sub, exp2_scaled, sum_mul_coe _ _ _ (Real.exp_pos _).le, Finset.sum_range_add]
      congr 1
      refine Finset.sum_congr rfl fun k _ => ?_
      rw [mul_assoc, ← EReal.coe_mul]
      congr 2
      simp only [wt]
      rw [← Real.exp_add]
      congr 1
      ring

/-- The quotient of the weighted sums by the sum of the weights is the sum of the values weighted by softmax. -/
theorem Seen.quotient {s : ℕ → ℝ} {a : ℝ} {V : ℕ → EReal} {N : ℕ} {M A Z : EReal}
    (hA : Seen s a V N M A) (hZ : Seen s a (fun _ => 1) N M Z) :
    ∃ m : ℝ, (∀ k < N, s k ≤ m) ∧ (∃ k < N, s k = m) ∧
      Ideal.div A Z = ∑ k ∈ Finset.range N, V k * Ideal.div (wt s a m k : EReal) (∑ k ∈ Finset.range N, (wt s a m k : EReal)) := by
  obtain ⟨m, e, hle, hex, rfl⟩ := hA
  obtain ⟨m', e', -, -, rfl⟩ := hZ
  obtain rfl : m = m' := EReal.coe_injective (e.symm.trans e')
  refine ⟨m, hle, hex, ?_⟩
  simp only [one_mul]
  rw [← coe_sum]
  have hpos : 0 < ∑ k ∈ Finset.range N, wt s a m k := by
    obtain ⟨k, hk, -⟩ := hex
    exact Finset.sum_pos (fun k _ => Real.exp_pos _) ⟨k, Finset.mem_range.2 hk⟩
  rw [Ideal.div_coe hpos.ne', sum_mul_coe _ _ _ (by positivity)]
  refine Finset.sum_congr rfl fun k _ => ?_
  rw [Ideal.div_coe hpos.ne', mul_assoc]

end Cert.Proof.Math
end
-- ==== Proof.Math.Kernel.lean ====
/- The kernel's state at one query, read as the online softmax of that query's scores. -/
module

public import proofs.«01_k».proof.Proof.KI.Tiles
public import proofs.«01_k».proof.Proof.Math.Online
public import Idealize.ShloMosaic.Lib.Pipeline.ValueKit

@[expose] public section

set_option maxRecDepth 16384
noncomputable section

namespace Cert.Proof.Math
open Idealize.ShloMosaic Idealize.ShloMosaic.TcCoe Idealize.SL.Sem
open Cert.KernelIdeal Cert.KernelIdeal.Gen Cert.Proof.KI

/-- The scale of the scores: the reciprocal of the root of the head width. -/
def scl : ℝ := (Real.sqrt 96)⁻¹

/-- The kernel's named constant: the scale in units of `log 2`. -/
theorem named_scale : Named.named (F := Ideal) (φ := .f32) κ "scale_log2e" 1041680192#32 = ((scl * (Real.log 2)⁻¹ : ℝ) : EReal) := by
  exact IdealRules.named_const.ideal_named_scalar κ "scale_log2e" (φ := .f32) _ _ rfl

/-- The pattern of minus infinity. -/
theorem ofBits_negInf : Ideal.ofBits FTy.f32 4286578688#32 = ⊥ := by simp [Ideal.ofBits, Ideal.ieee]

/-- A score of the chunk: the sum over the features of key times query. -/
theorem scores_at (q : FVec Ideal S128x256 .bf16) (kk : Vec Ideal S1x512x128 .bf16) (a b : Fin 1) (j : Fin 512) (c : Fin 256) :
    scores q kk (ix4 a b j c) = ∑ d : Fin 128, kk (ix3 0 j d) * q (ix2 d c) := by
  pointwise [k0_pay7, k0_pay3]

/-- The new maximum at a query: of the old one and the chunk's scores. -/
theorem max_at (m : FVec Ideal S1x256 .f32) (s : Vec Ideal S1x1x512x256 .f32) (a : Fin 1) (c : Fin 256) :
    k0_pay6 m s (ix2 a c) = max (m (ix2 0 c)) (Finset.fold max (⊥ : EReal) (fun x : Fin 512 => s (ix4 0 0 x c)) Finset.univ) := by
  rw [← ofBits_negInf]
  obtain rfl : a = 0 := Subsingleton.elim _ _
  pointwise [k0_pay6, k0_pay5]

/-- The new sums at a query: the old ones rescaled to the new maximum, and the chunk's weighted values. -/
theorem acc_at (m : FVec Ideal S1x256 .f32) (acc : FVec Ideal S80x256 .f32) (v : Vec Ideal S1x1x1x80x512 .bf16)
    (s : Vec Ideal S1x1x512x256 .f32) (e : Fin 80) (c : Fin 256) :
    k0_pay30 m acc v s (ix2 e c)
      = acc (ix2 e c) * Ideal.exp2 ((m (ix2 0 c) - k0_pay6 m s (ix2 0 c)) * ((scl * (Real.log 2)⁻¹ : ℝ) : EReal))
        + ∑ x : Fin 512, v (ix5 0 0 0 e x) * Ideal.exp2 ((s (ix4 0 0 x c) - k0_pay6 m s (ix2 0 c)) * ((scl * (Real.log 2)⁻¹ : ℝ) : EReal)) := by
  rw [max_at, ← ofBits_negInf, ← named_scale]
  pointwise [k0_pay30, k0_pay27, k0_pay26, k0_pay28]
  rfl

/-- An output element: the weighted sum over the sum of the weights, which row 64 holds. -/
theorem out_at (acc : FVec Ideal S80x256 .f32) (a b c : Fin 1) (e : Fin 64) (x : Fin 256) :
    k0_pay2 acc (ix5 a b c e x) = Ideal.div (acc (ix2 ⟨e.val, by omega⟩ x)) (acc (ix2 64 x)) := by
  pointwise [k0_pay2]

/-- The query tile as a matrix. -/
theorem qMat_at (X : Vec Ideal S1x1x16x128x512 .bf16) (n o : ℕ) (d : Fin 128) (c : Fin 256) :
    qMat X n o (ix2 d c) = X (ix5 0 0 ⟨n % 16, Nat.mod_lt _ (by decide)⟩ d ⟨(o + c.val) % 512, Nat.mod_lt _ (by decide)⟩) := by
  pointwise [k0_pay40]
  rfl

/-- The state at a query is the online softmax of its scores: nothing seen before the first chunk, and the first
    `512 n` keys seen after `n` chunks. -/
theorem state_seen (q : FVec Ideal S128x256 .bf16) (K : Vec Ideal S1x8192x128 .bf16) (W : Vec Ideal S1x1x16x80x512 .bf16)
    (c : Fin 256) (e : Fin 80) (s : ℕ → ℝ) (V : ℕ → EReal)
    (hs : ∀ k : Fin 8192, ∑ d : Fin 128, K (ix3 0 k d) * q (ix2 d c) = (s k.val : EReal))
    (hV : ∀ (n : Fin 16) (x : Fin 512), W (ix5 0 0 n e x) = V (512 * n.val + x.val)) :
    ∀ n : ℕ, n ≤ 16 → (512 * n = 0 ∧ (state q K W n).1 (ix2 0 c) = (⊥ : EReal) ∧ (state q K W n).2 (ix2 e c) = (0 : EReal))
      ∨ Seen s scl V (512 * n) ((state q K W n).1 (ix2 0 c)) ((state q K W n).2 (ix2 e c)) := by
  intro n
  induction n with
  | zero =>
    intro _
    refine .inl ⟨rfl, ?_, ?_⟩
    · show k0_pay44 (F := Ideal) (ix2 0 c) = (⊥ : EReal)
      rw [← ofBits_negInf]
      pointwise [k0_pay44]
    · show k0_pay45 (F := Ideal) (ix2 e c) = (0 : EReal)
      pointwise [k0_pay45]
  | succ n ih =>
    intro hn
    refine .inr ?_
    have hsc : ∀ x : Fin 512, scores q (kChunk K n) (ix4 0 0 x c) = (s (512 * n + x.val) : EReal) := by
      intro x
      have hx : (512 * n + x.val) % 8192 = 512 * n + x.val := Nat.mod_eq_of_lt (by omega)
      rw [scores_at]
      refine (hs ⟨(512 * n + x.val) % 8192, Nat.mod_lt _ (by decide)⟩).trans ?_
      show (s ((512 * n + x.val) % 8192) : EReal) = _
      rw [hx]
    have hv : ∀ x : Fin 512, vChunk W n (ix5 0 0 0 e x) = V (512 * n + x.val) := by
      intro x
      have hn' : n % 16 = n := Nat.mod_eq_of_lt (by omega)
      refine (hV ⟨n % 16, Nat.mod_lt _ (by decide)⟩ x).trans ?_
      show V (512 * (n % 16) + x.val) = _
      rw [hn']
    refine Seen.step (ih (by omega)) ?_ ?_
    · show k0_pay6 _ _ (ix2 0 c) = _
      rw [max_at]
      congr 2
      funext x
      exact hsc x
    · show k0_pay30 _ _ _ _ (ix2 e c) = _
      rw [acc_at]
      congr 1
      refine Finset.sum_congr rfl fun x _ => ?_
      rw [hv, hsc]
      rfl

end Cert.Proof.Math
end
-- ==== Proof.Math.Result.lean ====
/- An element of the kernel's result: the values weighted by the softmax of the query's scores. -/
module

public import proofs.«01_k».proof.Proof.KI.Final
public import proofs.«01_k».proof.Proof.Math.Kernel

@[expose] public section

set_option maxRecDepth 16384
noncomputable section

namespace Cert.Proof.Math
open Idealize.ShloMosaic Idealize.ShloMosaic.TcCoe Idealize.SL.Sem
open Cert.KernelIdeal Cert.KernelIdeal.Gen Cert.Proof.KI

/-- The score of key `k` for the query at token `t` of chunk `n`, batch row `b` and head `h`. -/
def score (Q : FVec Ideal S4x8x16x128x512 .bf16) (K : FVec Ideal S4x8192x1024 .bf16) (b : Fin 4) (h : Fin 8) (n : Fin 16) (t : Fin 512)
    (k : Fin 8192) : EReal :=
  ∑ d : Fin 128, (K (ix3 b k ⟨h.val * 128 + d.val, by omega⟩) : EReal) * Q (ix5 b h n d t)

/-- The value of key `k` in output row `d`. -/
def val (W : FVec Ideal S4x8x16x80x512 .bf16) (b : Fin 4) (h : Fin 8) (e : Fin 80) (k : ℕ) : EReal :=
  W (ix5 b h ⟨k / 512 % 16, Nat.mod_lt _ (by decide)⟩ e ⟨k % 512, Nat.mod_lt _ (by decide)⟩)

/-- With finite scores and ones in row 64 of the values, a result element is the softmax-weighted sum of its row of
    values. -/
theorem outArr_at (Q : FVec Ideal S4x8x16x128x512 .bf16) (K : FVec Ideal S4x8192x1024 .bf16) (W : FVec Ideal S4x8x16x80x512 .bf16)
    (b : Fin 4) (h : Fin 8) (n : Fin 16) (d : Fin 64) (t : Fin 512) (s : ℕ → ℝ)
    (hs : ∀ k : Fin 8192, score Q K b h n t k = (s k.val : EReal))
    (h1 : ∀ (n : Fin 16) (x : Fin 512), W (ix5 b h n 64 x) = (1 : EReal)) :
    ∃ m : ℝ, (∀ k < 8192, s k ≤ m) ∧ (∃ k < 8192, s k = m) ∧
      (outArr (F := Ideal) Q K W (ix5 b h n d t) : EReal) = ∑ k ∈ Finset.range 8192, val W b h ⟨d.val, by omega⟩ k
        * Ideal.div (wt s scl m k : EReal) (∑ k ∈ Finset.range 8192, (wt s scl m k : EReal)) := by
  have hq : ∀ k : Fin 8192, ∑ d : Fin 128, (kBlk (F := Ideal) K b h (ix3 0 k d) : EReal) * qMat (F := Ideal) (qBlk (F := Ideal) Q b h) n.val (256 * (t.val / 256)) (ix2 d ⟨t.val % 256, Nat.mod_lt _ (by decide)⟩)
      = (s k.val : EReal) := by
    intro k
    rw [← hs k]
    refine Finset.sum_congr rfl fun d _ => ?_
    rw [qMat_at]
    congr 1
    refine congrArg Q (funext fun a => Fin.ext ?_)
    match a with
    | ⟨0, _⟩ => rfl
    | ⟨1, _⟩ => rfl
    | ⟨2, _⟩ => show n.val % 16 = n.val; omega
    | ⟨3, _⟩ => rfl
    | ⟨4, _⟩ => show (256 * (t.val / 256) + t.val % 256) % 512 = t.val; omega
  have hV : ∀ (e : Fin 80) (n : Fin 16) (x : Fin 512), wBlk (F := Ideal) W b h (ix5 0 0 n e x) = val W b h e (512 * n.val + x.val) := by
    intro e n x
    refine congrArg W (funext fun a => Fin.ext ?_)
    match a with
    | ⟨0, _⟩ => rfl
    | ⟨1, _⟩ => rfl
    | ⟨2, _⟩ => show n.val = (512 * n.val + x.val) / 512 % 16; omega
    | ⟨3, _⟩ => rfl
    | ⟨4, _⟩ => show x.val = (512 * n.val + x.val) % 512; omega
  have hA := (state_seen (qMat (qBlk Q b h) n.val (256 * (t.val / 256))) (kBlk K b h) (wBlk W b h) ⟨t.val % 256, Nat.mod_lt _ (by decide)⟩
    ⟨d.val, by omega⟩ s (val W b h ⟨d.val, by omega⟩) hq (hV _) 16 le_rfl).resolve_left (by simp)
  have hZ := (state_seen (qMat (qBlk Q b h) n.val (256 * (t.val / 256))) (kBlk K b h) (wBlk W b h) ⟨t.val % 256, Nat.mod_lt _ (by decide)⟩
    64 s (fun _ => 1) hq (fun n x => h1 n x) 16 le_rfl).resolve_left (by simp)
  obtain ⟨m, hle, hex, e⟩ := Seen.quotient hA hZ
  refine ⟨m, hle, hex, ?_⟩
  refine Eq.trans ?_ e
  exact out_at _ 0 0 0 d ⟨t.val % 256, Nat.mod_lt _ (by decide)⟩

end Cert.Proof.Math
end
-- ==== Proof.Math.Ref.lean ====
/- The reference's steps, each read at an index. -/
module

public import proofs.«01_k».proof.Proof.Gen.ReferenceIdeal.Run
public import Idealize.ShloMosaic.Lib.Pipeline.ValueKit

@[expose] public section

set_option maxRecDepth 16384
noncomputable section

namespace Cert.Proof.Math
open Idealize.ShloMosaic Idealize.ShloMosaic.TcCoe Idealize.SL.Sem
open Cert.ReferenceIdeal Cert.ReferenceIdeal.Gen

/-- The scaled scores of every query against every key. -/
abbrev rScore (Q : FVec Ideal S4x8x16x128x512 .bf16) (K : FVec Ideal S4x8192x1024 .bf16) : FVec Ideal S4x8x8192x8192 .f32 :=
  Host.divf (Host.dotGeneral dot_S4x8192x8x128_S4x8192x8x128_S4x8x8192x8192_3_3_1_1_02_02 none (shapeCast _ (transpose S4x16x512x8x128 [0, 2, 4, 1, 3] (extf .f32 Q bitsLt_bf16_f32) transposes_S4x8x16x128x512_S4x16x512x8x128_0_2_4_1_3) shapeCasts_S4x16x512x8x128_S4x8192x8x128) (shapeCast _ (extf .f32 K bitsLt_bf16_f32) shapeCasts_S4x8192x1024_S4x8192x8x128)) (broadcastInDim S4x8x8192x8192 ![] bcast_S_S4x8x8192x8192 (Host.sqrt (constant S_ .f32 0x42C00000#32)))

/-- The largest scaled score of every query. -/
abbrev rMax (S : FVec Ideal S4x8x8192x8192 .f32) : FVec Ideal S4x8x8192 .f32 :=
  Host.reduce (α := Ideal .f32) FloatOps.maximumf S (constant S_ .f32 0xFF800000#32) reducesTo_S4x8x8192x8192_S4x8x8192_d3 h_S_

/-- The exponentials of the scaled scores relative to the largest. -/
abbrev rExp (S : FVec Ideal S4x8x8192x8192 .f32) (M : FVec Ideal S4x8x8192 .f32) : FVec Ideal S4x8x8192x8192 .f32 :=
  Host.exp (subf S (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) M))))

/-- The weights: the exponentials over their sum. -/
abbrev rProb (E : FVec Ideal S4x8x8192x8192 .f32) : FVec Ideal S4x8x8192x8192 .f32 :=
  Host.divf E (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd E (constant S_ .f32 0x00000000#32) reducesTo_S4x8x8192x8192_S4x8x8192_d3 h_S_)))

/-- The weighted values, in the result's layout. -/
abbrev rOut (V : FVec Ideal S4x8x16x80x512 .bf16) (P : FVec Ideal S4x8x8192x8192 .f32) : FVec Ideal S4x8x16x64x512 .bf16 :=
  truncf .bf16 (transpose S4x8x16x64x512 [0, 3, 1, 4, 2] (shapeCast _ (transpose S4x8192x8x64 [0, 3, 1, 2] (Host.dotGeneral (φ₁ := .f32) (φ₂ := .f32) dot_S4x8192x8x64_S4x8x8192x8192_S4x8x64x8192_1_3_3_2_02_01 none (shapeCast _ (transpose S4x16x512x8x64 [0, 2, 4, 1, 3] (extf .f32 (extractStridedSlice S4x8x16x64x512 ![0, 0, 0, 0, 0] V slices_S4x8x16x80x512_S4x8x16x64x512_0_0_0_0_0) bitsLt_bf16_f32) transposes_S4x8x16x64x512_S4x16x512x8x64_0_2_4_1_3) shapeCasts_S4x16x512x8x64_S4x8192x8x64) P) transposes_S4x8x64x8192_S4x8192x8x64_0_3_1_2) shapeCasts_S4x8192x8x64_S4x16x512x8x64) transposes_S4x16x512x8x64_S4x8x16x64x512_0_3_1_4_2) bitsLt_bf16_f32

/-- The reference's result from its arguments. -/
abbrev rRes (Q : FVec Ideal S4x8x16x128x512 .bf16) (K : FVec Ideal S4x8192x1024 .bf16) (V : FVec Ideal S4x8x16x80x512 .bf16) : FVec Ideal S4x8x16x64x512 .bf16 :=
  rOut V (rProb (rExp (rScore Q K) (rMax (rScore Q K))))

/-- A scaled score: the sum over the features of query times key, over the root. -/
theorem rScore_at (Q : FVec Ideal S4x8x16x128x512 .bf16) (K : FVec Ideal S4x8192x1024 .bf16) (b : Fin 4) (h : Fin 8) (i j : Fin 8192) :
    rScore Q K (ix4 b h i j)
      = Ideal.div (∑ x : Fin 128, Q (ix5 b h ⟨i.val / 512, by omega⟩ x ⟨i.val % 512, by omega⟩) * K (ix3 b j ⟨h.val * 128 + x.val, by omega⟩))
          (Ideal.sqrt (Ideal.ofBits FTy.f32 1119879168#32)) := by
  pointwise [rScore]

/-- A query's largest scaled score, from minus infinity. -/
theorem rMax_at (S : FVec Ideal S4x8x8192x8192 .f32) (b : Fin 4) (h : Fin 8) (i : Fin 8192) :
    rMax S (ix3 b h i) = Finset.fold max (Ideal.ofBits FTy.f32 4286578688#32) (fun x : Fin 8192 => S (ix4 b h i x)) Finset.univ := by
  pointwise [rMax]

/-- An exponential. -/
theorem rExp_at (S : FVec Ideal S4x8x8192x8192 .f32) (M : FVec Ideal S4x8x8192 .f32) (b : Fin 4) (h : Fin 8) (i j : Fin 8192) :
    rExp S M (ix4 b h i j) = Ideal.exp (S (ix4 b h i j) - max (Ideal.ofBits FTy.f32 4286578688#32) (M (ix3 b h i))) := by
  pointwise [rExp]

/-- A weight. -/
theorem rProb_at (E : FVec Ideal S4x8x8192x8192 .f32) (b : Fin 4) (h : Fin 8) (i j : Fin 8192) :
    rProb E (ix4 b h i j) = Ideal.div (E (ix4 b h i j)) (∑ x : Fin 8192, E (ix4 b h i x)) := by
  pointwise [rProb]

/-- A result element: the weighted sum of one row of values. -/
theorem rOut_at (V : FVec Ideal S4x8x16x80x512 .bf16) (P : FVec Ideal S4x8x8192x8192 .f32) (b : Fin 4) (h : Fin 8) (n : Fin 16) (d : Fin 64) (t : Fin 512) :
    rOut V P (ix5 b h n d t)
      = ∑ x : Fin 8192, V (ix5 b h ⟨x.val / 512, by omega⟩ ⟨d.val, by omega⟩ ⟨x.val % 512, by omega⟩) * P (ix4 b h ⟨n.val * 512 + t.val, by omega⟩ x) := by
  pointwise [rOut]

/-- The reference runs and ends with its result at `rRes` of the arguments, which are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = rRes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Proof.Math
end
-- ==== Proof.Math.Equal.lean ====
/- The kernel's result is the reference's, under the precondition's facts. -/
module

public import proofs.«01_k».proof.Proof.Math.Result
public import proofs.«01_k».proof.Proof.Math.Ref

@[expose] public section

set_option maxRecDepth 16384
noncomputable section

namespace Cert.Proof.Math
open Idealize.ShloMosaic Idealize.ShloMosaic.TcCoe Idealize.SL.Sem
open Cert.KernelIdeal Cert.Proof.KI

/-- The scale is positive. -/
theorem scl_pos : 0 < scl := inv_pos.2 (Real.sqrt_pos.2 (by norm_num))

/-- The root the reference divides by. -/
theorem root_eq : Ideal.sqrt (Ideal.ofBits FTy.f32 1119879168#32) = ((Real.sqrt 96 : ℝ) : EReal) := by
  have h : Ideal.ofBits FTy.f32 1119879168#32 = ((96 : ℝ) : EReal) := by
    simp [Ideal.ofBits, Ideal.ieee, -EReal.coe_mul]; norm_num
  rw [h, Ideal.sqrt_coe, if_neg (by norm_num)]

/-- Dividing a real by the root is multiplying it by the scale. -/
theorem div_root (x : ℝ) : Ideal.div (x : EReal) ((Real.sqrt 96 : ℝ) : EReal) = ((x * scl : ℝ) : EReal) := by
  rw [Ideal.div_coe (Real.sqrt_pos.2 (by norm_num)).ne', ← EReal.coe_mul, one_div]
  rfl

section
variable (Q : FVec Ideal S4x8x16x128x512 .bf16) (K : FVec Ideal S4x8192x1024 .bf16) (W : FVec Ideal S4x8x16x80x512 .bf16)
  (b : Fin 4) (h : Fin 8) (n : Fin 16) (t : Fin 512) (s : ℕ → ℝ) (m : ℝ)

/-- The reference's scaled score of a query with real scores. -/
theorem rScore_real (hs : ∀ k : Fin 8192, score Q K b h n t k = (s k.val : EReal)) (j : Fin 8192) :
    (rScore Q K (ix4 b h ⟨n.val * 512 + t.val, by omega⟩ j) : EReal) = ((s j.val * scl : ℝ) : EReal) := by
  refine (rScore_at Q K b h _ j).trans ?_
  rw [root_eq, ← div_root, ← hs j]
  congr 1
  refine Finset.sum_congr rfl fun d _ => ?_
  rw [mul_comm]
  congr 1
  refine congrArg Q (funext fun a => Fin.ext ?_)
  match a with
  | ⟨0, _⟩ => rfl
  | ⟨1, _⟩ => rfl
  | ⟨2, _⟩ => show (n.val * 512 + t.val) / 512 = n.val; omega
  | ⟨3, _⟩ => rfl
  | ⟨4, _⟩ => show (n.val * 512 + t.val) % 512 = t.val; omega

/-- The reference's exponential is the weight relative to the largest score. -/
theorem rExp_real (hs : ∀ k : Fin 8192, score Q K b h n t k = (s k.val : EReal)) (hle : ∀ k < 8192, s k ≤ m) (hex : ∃ k < 8192, s k = m)
    (j : Fin 8192) :
    (rExp (rScore Q K) (rMax (rScore Q K)) (ix4 b h ⟨n.val * 512 + t.val, by omega⟩ j) : EReal) = (wt s scl m j.val : EReal) := by
  have hmax : (rMax (rScore Q K) (ix3 b h ⟨n.val * 512 + t.val, by omega⟩) : EReal) = ((m * scl : ℝ) : EReal) := by
    refine (rMax_at _ b h _).trans ?_
    rw [ofBits_negInf]
    have e : (fun x : Fin 8192 => (rScore Q K (ix4 b h ⟨n.val * 512 + t.val, by omega⟩ x) : EReal)) = fun x : Fin 8192 => ((s x.val * scl : ℝ) : EReal) :=
      funext fun x => rScore_real Q K b h n t s hs x
    refine (congrArg (fun f => Finset.fold max (⊥ : EReal) f Finset.univ) e).trans ?_
    refine fold_max_coe Finset.univ (fun x : Fin 8192 => s x.val * scl) (m * scl) (fun x _ => ?_) ?_
    · exact mul_le_mul_of_nonneg_right (hle _ x.isLt) scl_pos.le
    · obtain ⟨k, hk, rfl⟩ := hex
      exact ⟨⟨k, hk⟩, Finset.mem_univ _, rfl⟩
  refine (rExp_at _ _ b h _ j).trans ?_
  rw [ofBits_negInf]
  refine (congrArg₂ (fun x y : EReal => Ideal.exp (x - max ⊥ y)) (rScore_real Q K b h n t s hs j) hmax).trans ?_
  show Ideal.exp (_ - max (⊥ : EReal) _) = _
  rw [max_eq_right bot_le, ← EReal.coe_sub, Ideal.exp_coe]
  unfold wt
  rw [sub_mul]

/-- The reference's result element is the softmax-weighted sum of its row of values. -/
theorem rRes_real (hs : ∀ k : Fin 8192, score Q K b h n t k = (s k.val : EReal)) (hle : ∀ k < 8192, s k ≤ m) (hex : ∃ k < 8192, s k = m)
    (d : Fin 64) :
    (rRes Q K W (ix5 b h n d t) : EReal) = ∑ k ∈ Finset.range 8192, val W b h ⟨d.val, by omega⟩ k
        * Ideal.div (wt s scl m k : EReal) (∑ k ∈ Finset.range 8192, (wt s scl m k : EReal)) := by
  refine (rOut_at W _ b h n d t).trans ?_
  rw [Finset.sum_range]
  refine Finset.sum_congr rfl fun j _ => ?_
  have hp : (rProb (rExp (rScore Q K) (rMax (rScore Q K))) (ix4 b h ⟨n.val * 512 + t.val, by omega⟩ j) : EReal)
      = Ideal.div (wt s scl m j.val : EReal) (∑ k ∈ Finset.range 8192, (wt s scl m k : EReal)) := by
    refine (rProb_at _ b h _ j).trans ?_
    refine congrArg₂ Ideal.div (rExp_real Q K b h n t s m hs hle hex j) ?_
    rw [Finset.sum_range]
    exact Finset.sum_congr rfl fun x _ => rExp_real Q K b h n t s m hs hle hex x
  refine congrArg₂ (fun x y : EReal => x * y) ?_ hp
  refine congrArg W (funext fun a => Fin.ext ?_)
  have hj := j.isLt
  match a with
  | ⟨0, _⟩ => rfl
  | ⟨1, _⟩ => rfl
  | ⟨2, _⟩ => show j.val / 512 = j.val / 512 % 16; omega
  | ⟨3, _⟩ => rfl
  | ⟨4, _⟩ => rfl

end

/-- The two results are equal. -/
theorem result_eq (Q : FVec Ideal S4x8x16x128x512 .bf16) (K : FVec Ideal S4x8192x1024 .bf16) (W : FVec Ideal S4x8x16x80x512 .bf16)
    (hQ : ∀ i, ∃ r : ℝ, Q i = (r : EReal)) (hK : ∀ i, ∃ r : ℝ, K i = (r : EReal))
    (h1 : ∀ (b : Fin 4) (h : Fin 8) (n : Fin 16) (x : Fin 512), W (ix5 b h n 64 x) = (1 : EReal)) :
    outArr (F := Ideal) Q K W = rRes Q K W := by
  choose q hq using hQ
  choose k hk using hK
  have key : ∀ (b : Fin 4) (h : Fin 8) (n : Fin 16) (d : Fin 64) (t : Fin 512),
      (outArr (F := Ideal) Q K W (ix5 b h n d t) : EReal) = rRes Q K W (ix5 b h n d t) := by
    intro b h n d t
    let s : ℕ → ℝ := fun x => ∑ d : Fin 128, k (ix3 b ⟨x % 8192, Nat.mod_lt _ (by decide)⟩ ⟨h.val * 128 + d.val, by omega⟩) * q (ix5 b h n d t)
    have hs : ∀ x : Fin 8192, score Q K b h n t x = (s x.val : EReal) := by
      intro x
      show _ = ((∑ d : Fin 128, _ : ℝ) : EReal)
      rw [coe_sum]
      refine Finset.sum_congr rfl fun d _ => ?_
      rw [EReal.coe_mul, ← hk, ← hq]
      have e : (⟨x.val % 8192, Nat.mod_lt _ (by decide)⟩ : Fin 8192) = x := Fin.ext (Nat.mod_eq_of_lt x.isLt)
      rw [e]
    obtain ⟨m, hle, hex, e⟩ := outArr_at Q K W b h n d t s hs (h1 b h)
    exact e.trans (rRes_real Q K W b h n t s m hs hle hex d).symm
  funext y
  have ey : y = ix5 (n0 := 4) (n1 := 8) (n2 := 16) (n3 := 64) (n4 := 512) (y 0) (y 1) (y 2) (y 3) (y 4) := by
    funext a
    match a with
    | ⟨0, _⟩ => rfl
    | ⟨1, _⟩ => rfl
    | ⟨2, _⟩ => rfl
    | ⟨3, _⟩ => rfl
    | ⟨4, _⟩ => rfl
  rw [ey]
  exact key (y 0) (y 1) (y 2) (y 3) (y 4)

end Cert.Proof.Math
end
-- ==== Proof.lean ====
/- The proof of the claim: the frames of the kernel and of the reference, the named constants, and the equality of their results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_mla_pre
public import proofs.«01_k».proof.Proof.FFN.Final
public import proofs.«01_k».proof.Proof.Out.Two
public import proofs.«01_k».proof.Proof.Out.One
public import proofs.«01_k».proof.Proof.KF.Final
public import proofs.«01_k».proof.Proof.KI.Final
public import proofs.«01_k».proof.Proof.Math.Pre
public import proofs.«01_k».proof.Proof.Math.Equal
public import Idealize.ShloMosaic.Adequacy
public import Idealize.ShloMosaic.Init

@[expose] public section

noncomputable section

namespace Cert.Proof

open Idealize.ShloMosaic Idealize.ShloMosaic.TcCoe Idealize.SL.Sem

/-- The kernel's frame: it runs, its arguments end unchanged and every counter is back at zero. -/
theorem frame_kernel : Cert.quiescent_Kernel := fun m g _ =>
  (θ_run _ _ _).mono (fun _ h => ⟨fun c => (h.1 c).2, h.2⟩) (KF.run_values m g)

/-- The idealized kernel's frame. -/
theorem frame_kernelIdeal : Cert.quiescent_KernelIdeal := fun m g _ =>
  (θ_run _ _ _).mono (fun _ h => ⟨fun c => (h.1 c).2, h.2⟩) (KI.run_values m g)

/-- The idealized kernel's frame under the precondition. -/
theorem frame_kernelIdeal_pre : Cert.quiescent_KernelIdeal_pre_mla_pre := fun m g _ =>
  (θ_run _ _ _).mono (fun _ h => ⟨fun c => (h.1 c).2, h.2⟩) (KI.run_values m g)

/-- The idealized reference declares no semaphore: every family of counters is the zero family. -/
theorem no_sem_ideal (f : Thread Cert.ReferenceIdeal.nD Cert.ReferenceIdeal.τ × SemLoc Cert.ReferenceIdeal.sig → ℤ) : f = fun _ => 0 := by
  funext g
  obtain ⟨t, s⟩ := g
  cases s with
  | reg s => exact (s : Fin 0).elim0
  | dma s => exact (s : Fin 0).elim0

/-- The reference declares no semaphore either. -/
theorem no_sem (f : Thread Cert.Reference.nD Cert.Reference.τ × SemLoc Cert.Reference.sig → ℤ) : f = fun _ => 0 := by
  funext g
  obtain ⟨t, s⟩ := g
  cases s with
  | reg s => exact (s : Fin 0).elim0
  | dma s => exact (s : Fin 0).elim0

/-- The idealized reference's frame. -/
theorem frame_referenceIdeal : Cert.quiescent_ReferenceIdeal := fun m g _ =>
  (θ_run _ _ _).mono (fun _ h => ⟨fun c => (h c).2, no_sem_ideal _⟩) (Cert.ReferenceIdeal.Value.run m g)

/-- The idealized reference's frame under the precondition. -/
theorem frame_referenceIdeal_pre : Cert.quiescent_ReferenceIdeal_pre_mla_pre := fun m g _ =>
  (θ_run _ _ _).mono (fun _ h => ⟨fun c => (h c).2, no_sem_ideal _⟩) (Cert.ReferenceIdeal.Value.run m g)

/-- The reference's frame. -/
theorem frame_reference : Cert.quiescent_Reference := fun m g _ =>
  (θ_run _ _ _).mono (fun _ h => ⟨fun c => (h c).2, no_sem _⟩) (Cert.Reference.Value.run m g)

/-- The frame of the channel block's kernel. -/
theorem frame_kernel2 : Cert.quiescent_Kernel2 := fun m g _ => Cert.Kernel2.Gen.frame m g

/-- The frame of its idealization. -/
theorem frame_kernel2Ideal : Cert.quiescent_Kernel2Ideal := fun m g _ => Cert.Kernel2Ideal.Gen.frame m g

/-- The idealized reference of the channel block declares no semaphore. -/
theorem no_sem_ideal2 (f : Thread Cert.Reference2Ideal.nD Cert.Reference2Ideal.τ × SemLoc Cert.Reference2Ideal.sig → ℤ) : f = fun _ => 0 := by
  funext g
  obtain ⟨t, s⟩ := g
  cases s with
  | reg s => exact (s : Fin 0).elim0
  | dma s => exact (s : Fin 0).elim0

/-- The frame of the channel block's idealized reference. -/
theorem frame_reference2Ideal : Cert.quiescent_Reference2Ideal := fun m g _ =>
  (θ_run _ _ _).mono (fun _ h => ⟨fun c => (h c).2, no_sem_ideal2 _⟩) (Cert.Reference2Ideal.Value.run m g)

/-- Both programs of the channel block, at the extended reals, end with equal results, whatever the arguments hold. -/
theorem equal2 : Cert.algebraic_Kernel2Ideal_Reference2Ideal := by
  intro m g m' g' _ hag
  refine ⟨fun c => FFN.Ref.rRes (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6)), ?_, ?_⟩
  · exact (θ_run _ _ _).mono (fun _ h c => ⟨(h c).1.trans (FFN.final_out m c), (h c).2⟩) (Cert.Kernel2Ideal.Value.run_blocks m g)
  · refine (θ_run _ _ _).mono (fun _ h c => ⟨(h c).1.trans ?_, (h c).2⟩) (FFN.Ref.ref_run m' g')
    obtain ⟨e0, e1, e2, e3, e4, e5, e6⟩ := hag c
    rw [e0, e1, e2, e3, e4, e5, e6]

/-- The frame of the kernel of the first layer's output projection. -/
theorem frame_kernel3 : Cert.quiescent_Kernel3 := fun m g _ => Cert.Kernel3.Gen.frame m g

/-- The frame of its idealization. -/
theorem frame_kernel3Ideal : Cert.quiescent_Kernel3Ideal := fun m g _ => Cert.Kernel3Ideal.Gen.frame m g

/-- The idealized reference of the first layer's output projection declares no semaphore. -/
theorem no_sem_ideal3 (f : Thread Cert.Reference3Ideal.nD Cert.Reference3Ideal.τ × SemLoc Cert.Reference3Ideal.sig → ℤ) : f = fun _ => 0 := by
  funext g
  obtain ⟨t, s⟩ := g
  cases s with
  | reg s => exact (s : Fin 0).elim0
  | dma s => exact (s : Fin 0).elim0

/-- The frame of the idealized reference of the first layer's output projection. -/
theorem frame_reference3Ideal : Cert.quiescent_Reference3Ideal := fun m g _ =>
  (θ_run _ _ _).mono (fun _ h => ⟨fun c => (h c).2, no_sem_ideal3 _⟩) (Cert.Reference3Ideal.Value.run m g)

/-- Both programs of the first layer's output projection, at the extended reals, end with equal results, whatever the arguments hold. -/
theorem equal3 : Cert.algebraic_Kernel3Ideal_Reference3Ideal := by
  intro m g m' g' _ hag
  refine ⟨fun c => Out.Two.res (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5)), ?_, ?_⟩
  · exact (θ_run _ _ _).mono (fun _ h c => ⟨(h c).1.trans (Out.Two.final_out m c), (h c).2⟩) (Cert.Kernel3Ideal.Value.run_blocks m g)
  · refine (θ_run _ _ _).mono (fun _ h c => ⟨(h c).1.trans ?_, (h c).2⟩) (Out.Two.ref_run m' g')
    obtain ⟨e0, e1, e2, e3, e4, e5⟩ := hag c
    rw [e0, e1, e2, e3, e4, e5]

/-- The frame of the kernel of the second layer's output projection. -/
theorem frame_kernel4 : Cert.quiescent_Kernel4 := fun m g _ => Cert.Kernel4.Gen.frame m g

/-- The frame of its idealization. -/
theorem frame_kernel4Ideal : Cert.quiescent_Kernel4Ideal := fun m g _ => Cert.Kernel4Ideal.Gen.frame m g

/-- The idealized reference of the second layer's output projection declares no semaphore. -/
theorem no_sem_ideal4 (f : Thread Cert.Reference4Ideal.nD Cert.Reference4Ideal.τ × SemLoc Cert.Reference4Ideal.sig → ℤ) : f = fun _ => 0 := by
  funext g
  obtain ⟨t, s⟩ := g
  cases s with
  | reg s => exact (s : Fin 0).elim0
  | dma s => exact (s : Fin 0).elim0

/-- The frame of the idealized reference of the second layer's output projection. -/
theorem frame_reference4Ideal : Cert.quiescent_Reference4Ideal := fun m g _ =>
  (θ_run _ _ _).mono (fun _ h => ⟨fun c => (h c).2, no_sem_ideal4 _⟩) (Cert.Reference4Ideal.Value.run m g)

/-- Both programs of the second layer's output projection, at the extended reals, end with equal results, whatever the arguments hold. -/
theorem equal4 : Cert.algebraic_Kernel4Ideal_Reference4Ideal := by
  intro m g m' g' _ hag
  refine ⟨fun c => Out.One.res (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · exact (θ_run _ _ _).mono (fun _ h c => ⟨(h c).1.trans (Out.One.final_out m c), (h c).2⟩) (Cert.Kernel4Ideal.Value.run_blocks m g)
  · refine (θ_run _ _ _).mono (fun _ h c => ⟨(h c).1.trans ?_, (h c).2⟩) (Out.One.ref_run m' g')
    obtain ⟨e0, e1, e2, e3, e4⟩ := hag c
    rw [e0, e1, e2, e3, e4]

/-- Both programs of the attention, at the extended reals, end with equal results. -/
theorem equal : Cert.algebraic_KernelIdeal_ReferenceIdeal_pre_mla_pre := by
  intro m g m' g' hpre hag
  refine ⟨fun c => KI.outArr (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun _ h c => h.1 c) (KI.run_values m g)
  · refine (θ_run _ _ _).mono (fun _ h c => ⟨(h c).1.trans ?_, (h c).2⟩) (Math.ref_run m' g')
    obtain ⟨e0, e1, e2⟩ := hag c
    rw [e0, e1, e2]
    obtain ⟨hQ, hK, h1⟩ := Math.pre_read _ _ _ (hpre c)
    exact (Math.result_eq _ _ _ hQ hK h1).symm

/-- Everything the certificate claims. -/
theorem claim : Cert.Claim :=
  ⟨inferInstance, inferInstance, inferInstance, inferInstance, inferInstance, inferInstance, inferInstance, inferInstance, inferInstance, inferInstance, inferInstance, inferInstance, inferInstance, inferInstance,
    frame_kernel, frame_kernelIdeal, frame_kernelIdeal_pre, frame_referenceIdeal, frame_referenceIdeal_pre, frame_reference,
    frame_kernel2, frame_kernel2Ideal, frame_reference2Ideal,
    frame_kernel3, frame_kernel3Ideal, frame_reference3Ideal, frame_kernel4, frame_kernel4Ideal, frame_reference4Ideal,
    IdealRules.named_const.statement Cert.KernelIdeal.κ "scale_log2e" .f32 0x3E16C740#32 _ rfl, trivial, equal,
    ⟨IdealRules.named_const.statement Cert.Kernel2Ideal.κ "sqrt_half" .f32 0x3F3504F3#32 _ rfl,
      IdealRules.named_const.statement Cert.Kernel2Ideal.κ "alpha" .f32 0x3FB504F3#32 _ rfl⟩, equal2,
    IdealRules.named_const.statement Cert.Kernel3Ideal.κ "alpha" .f32 0x3FB504F3#32 _ rfl, equal3,
    IdealRules.named_const.statement Cert.Kernel4Ideal.κ "alpha" .f32 0x3FB504F3#32 _ rfl, equal4⟩

end Cert.Proof

end
